-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_logit_finite [hPre_top_logit_finite : Cert.Pre_top_logit_finite.Facts] (m : (ℓ : Loc Cert.KernelIdeal.nD Cert.KernelIdeal.τ Cert.KernelIdeal.sig) → Buf (Elt Ideal) ℓ) : Prop :=
  ∀ c : Dev Cert.KernelIdeal.nD,
    (Cert.Pre_top_logit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_logit_finite [hPre_top_logit_finite : Cert.Pre_top_logit_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_logit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_top_logit_finite [hKernelIdeal : Cert.KernelIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_logit_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_top_logit_finite [hReferenceIdeal : Cert.ReferenceIdeal.Facts] [hPre_top_logit_finite : Cert.Pre_top_logit_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_logit_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_top_logit_finite [hKernelIdeal : Cert.KernelIdeal.Facts] [hReferenceIdeal : Cert.ReferenceIdeal.Facts] [hPre_top_logit_finite : Cert.Pre_top_logit_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_logit_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v454) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_top_logit_finite : Cert.Pre_top_logit_finite.Facts),
    quiescent_Kernel (hKernel := hKernel)
    ∧ quiescent_KernelIdeal (hKernelIdeal := hKernelIdeal)
    ∧ quiescent_KernelIdeal_pre_top_logit_finite (hKernelIdeal := hKernelIdeal) (hPre_top_logit_finite := hPre_top_logit_finite)
    ∧ quiescent_ReferenceIdeal (hReferenceIdeal := hReferenceIdeal)
    ∧ quiescent_ReferenceIdeal_pre_top_logit_finite (hReferenceIdeal := hReferenceIdeal) (hPre_top_logit_finite := hPre_top_logit_finite)
    ∧ preserves_Kernel_KernelIdeal
    ∧ algebraic_KernelIdeal_ReferenceIdeal_pre_top_logit_finite (hKernelIdeal := hKernelIdeal) (hReferenceIdeal := hReferenceIdeal) (hPre_top_logit_finite := hPre_top_logit_finite)
-- ==== Pre_top_logit_finite.lean ====
abbrev S128x1x768 : Shape := ⟨3, ![128, 1, 768]⟩
abbrev S16x768 : Shape := ⟨2, ![16, 768]⟩
abbrev S16x1536x768 : Shape := ⟨3, ![16, 1536, 768]⟩
abbrev S16x1536 : Shape := ⟨2, ![16, 1536]⟩
abbrev S16x768x1536 : Shape := ⟨3, ![16, 768, 1536]⟩
abbrev S128x768 : Shape := ⟨2, ![128, 768]⟩
abbrev S768x16 : Shape := ⟨2, ![768, 16]⟩
abbrev S128x16 : Shape := ⟨2, ![128, 16]⟩
abbrev S_ : Shape := ⟨0, ![]⟩
abbrev S128 : Shape := ⟨1, ![128]⟩

class Facts : Prop where
  shapeCasts_S128x1x768_S128x768 : S128x1x768.ShapeCasts S128x768
  transposes_S16x768_S768x16_1_0 : S16x768.Transposes [1, 0] S768x16
  reducesTo_S128x16_S128_d1 : S128x16.ReducesTo [1] S128
  h_S_ : 0 < S_.numel
  bcast_S_S128 : S_.BroadcastsInDim S128 (![] : Fin 0 → Fin S128.rank)
  dot_S128x768_S768x16_S128x16_1_0_0_1_n_n_wf : DotDims.WF S128x768 S768x16 S128x16 [1] [0] [0] [1] [] []

variable [Facts]

def dot_S128x768_S768x16_S128x16_1_0_0_1_n_n : DotDims S128x768 S768x16 S128x16 where
  lhsContracting := [1]
  rhsContracting := [0]
  lhsNonContracting := [0]
  rhsNonContracting := [1]
  lhsBatch := []
  rhsBatch := []
  wf := dot_S128x768_S768x16_S128x16_1_0_0_1_n_n_wf
def fn {F : FTy → Type} [FloatOps F] (main_arg0 : FVec F S128x1x768 .f32) (main_arg1 : FVec F S16x768 .f32) (main_arg2 : FVec F S16x1536x768 .f32) (main_arg3 : FVec F S16x1536 .f32) (main_arg4 : FVec F S16x768x1536 .f32) (main_arg5 : FVec F S16x768 .f32) : IVec S128 1 :=
  let main_v0 : FVec F S128x768 .f32 := shapeCast S128x768 main_arg0 shapeCasts_S128x1x768_S128x768
  let main_v1 : FVec F S768x16 .f32 := (transpose S768x16 [1, 0] · transposes_S16x768_S768x16_1_0) main_arg1
  let main_v2 : FVec F S128x16 .f32 := (fun l r => Host.dotGeneral dot_S128x768_S768x16_S128x16_1_0_0_1_n_n none l r) main_v0 main_v1
  let main_cst : FVec F S_ .f32 := constant S_ .f32 0xFF800000#32
  let main_v3 : FVec F S128 .f32 := (fun x v => Host.reduce FloatOps.maximumf x v reducesTo_S128x16_S128_d1 h_S_) main_v2 main_cst
  let main_v4 : FVec F S128 .f32 := Host.absf main_v3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  main_v6
-- ==== Kernel.lean ====
abbrev S128x1x768 : Shape := ⟨3, ![128, 1, 768]⟩
abbrev S16x768 : Shape := ⟨2, ![16, 768]⟩
abbrev S16x1536x768 : Shape := ⟨3, ![16, 1536, 768]⟩
abbrev S16x1536 : Shape := ⟨2, ![16, 1536]⟩
abbrev S16x768x1536 : Shape := ⟨3, ![16, 768, 1536]⟩
abbrev S128x768 : Shape := ⟨2, ![128, 768]⟩
abbrev S16x1x1536 : Shape := ⟨3, ![16, 1, 1536]⟩
abbrev S16x1x768 : Shape := ⟨3, ![16, 1, 768]⟩
abbrev S1x1536x768 : Shape := ⟨3, ![1, 1536, 768]⟩
abbrev S1x1x1536 : Shape := ⟨3, ![1, 1, 1536]⟩
abbrev S1x768x1536 : Shape := ⟨3, ![1, 768, 1536]⟩
abbrev S1x1x768 : Shape := ⟨3, ![1, 1, 768]⟩
abbrev S128x1 : Shape := ⟨2, ![128, 1]⟩
abbrev S128x16 : Shape := ⟨2, ![128, 16]⟩
abbrev S128 : Shape := ⟨1, ![128]⟩
abbrev S1536x768 : Shape := ⟨2, ![1536, 768]⟩
abbrev S128x1536 : Shape := ⟨2, ![128, 1536]⟩
abbrev S1x1536 : Shape := ⟨2, ![1, 1536]⟩
abbrev S768x1536 : Shape := ⟨2, ![768, 1536]⟩
abbrev S1x768 : Shape := ⟨2, ![1, 768]⟩

abbrev nBuf : Space → Nat
  | .hbm => 10
  | .vmem => 13
  | .smem => 0
  | _ => 0

abbrev bufTy : (tb : Table) → Fin (tcTables nBuf tb) → BufTy
  | .hbm, ⟨0, _⟩ => ⟨S128x1x768, .f32⟩
  | .hbm, ⟨1, _⟩ => ⟨S16x768, .f32⟩
  | .hbm, ⟨2, _⟩ => ⟨S16x1536x768, .f32⟩
  | .hbm, ⟨3, _⟩ => ⟨S16x1536, .f32⟩
  | .hbm, ⟨4, _⟩ => ⟨S16x768x1536, .f32⟩
  | .hbm, ⟨5, _⟩ => ⟨S16x768, .f32⟩
  | .hbm, ⟨6, _⟩ => ⟨S128x768, .f32⟩
  | .hbm, ⟨7, _⟩ => ⟨S16x1x1536, .f32⟩
  | .hbm, ⟨8, _⟩ => ⟨S16x1x768, .f32⟩
  | .hbm, ⟨9, _⟩ => ⟨S128x768, .f32⟩
  | .local _ .vmem, ⟨0, _⟩ => ⟨S128x768, .f32⟩
  | .local _ .vmem, ⟨1, _⟩ => ⟨S16x768, .f32⟩
  | .local _ .vmem, ⟨2, _⟩ => ⟨S1x1536x768, .f32⟩
  | .local _ .vmem, ⟨3, _⟩ => ⟨S1x1536x768, .f32⟩
  | .local _ .vmem, ⟨4, _⟩ => ⟨S1x1x1536, .f32⟩
  | .local _ .vmem, ⟨5, _⟩ => ⟨S1x1x1536, .f32⟩
  | .local _ .vmem, ⟨6, _⟩ => ⟨S1x768x1536, .f32⟩
  | .local _ .vmem, ⟨7, _⟩ => ⟨S1x768x1536, .f32⟩
  | .local _ .vmem, ⟨8, _⟩ => ⟨S1x1x768, .f32⟩
  | .local _ .vmem, ⟨9, _⟩ => ⟨S1x1x768, .f32⟩
  | .local _ .vmem, ⟨10, _⟩ => ⟨S128x768, .f32⟩
  | .local _ .vmem, ⟨11, _⟩ => ⟨S128x1, .f32⟩
  | .local _ .vmem, ⟨12, _⟩ => ⟨S128x1, .f32⟩
  | _, _ => ⟨S128x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_22 : BitVec 32 := 0#32
  let v31 : BitVec 1 := Scalar.cmpi .eq arg0 c0_i32_22
  let v32 : BitVec 32 := Scalar.extui v31
  let c0_i32_23 : BitVec 32 := 0#32
  let v33 : BitVec 1 := Scalar.cmpi .ne v32 c0_i32_23
  v33

def k0_cond3 (i : grid0.Coords) : BitVec 1 :=
  let arg0 : BitVec 32 := BitVec.ofNat 32 (i 0).val
  let c0_i32_24 : BitVec 32 := 0#32
  let v34 : BitVec 1 := Scalar.cmpi .ne arg0 c0_i32_24
  let v35 : BitVec 32 := Scalar.extui v34
  let c0_i32_25 : BitVec 32 := 0#32
  let v36 : BitVec 1 := Scalar.cmpi .ne v35 c0_i32_25
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1536x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S128x1x768 : Shape := ⟨3, ![128, 1, 768]⟩
abbrev S16x768 : Shape := ⟨2, ![16, 768]⟩
abbrev S16x1536x768 : Shape := ⟨3, ![16, 1536, 768]⟩
abbrev S16x1536 : Shape := ⟨2, ![16, 1536]⟩
abbrev S16x768x1536 : Shape := ⟨3, ![16, 768, 1536]⟩
abbrev S128x768 : Shape := ⟨2, ![128, 768]⟩
abbrev S768x16 : Shape := ⟨2, ![768, 16]⟩
abbrev S128x16 : Shape := ⟨2, ![128, 16]⟩
abbrev S_ : Shape := ⟨0, ![]⟩
abbrev S128 : Shape := ⟨1, ![128]⟩
abbrev S128x1 : Shape := ⟨2, ![128, 1]⟩
abbrev S1x1536x768 : Shape := ⟨3, ![1, 1536, 768]⟩
abbrev S1536x768 : Shape := ⟨2, ![1536, 768]⟩
abbrev S768x1536 : Shape := ⟨2, ![768, 1536]⟩
abbrev S128x1536 : Shape := ⟨2, ![128, 1536]⟩
abbrev S1x1536 : Shape := ⟨2, ![1, 1536]⟩
abbrev S1536 : Shape := ⟨1, ![1536]⟩
abbrev S1x768x1536 : Shape := ⟨3, ![1, 768, 1536]⟩
abbrev S1x768 : Shape := ⟨2, ![1, 768]⟩
abbrev S768 : Shape := ⟨1, ![768]⟩

abbrev nBuf : Space → Nat
  | .hbm => 517
  | .vmem => 0
  | .smem => 0
  | _ => 0

abbrev hbmTy0_0 (i : Nat) : BufTy := match i % 128 with
  | 0 => ⟨S128x1x768, .f32⟩
  | 1 => ⟨S16x768, .f32⟩
  | 2 => ⟨S16x1536x768, .f32⟩
  | 3 => ⟨S16x1536, .f32⟩
  | 4 => ⟨S16x768x1536, .f32⟩
  | 5 => ⟨S16x768, .f32⟩
  | 6 => ⟨S128x768, .f32⟩
  | 7 => ⟨S768x16, .f32⟩
  | 8 => ⟨S128x16, .f32⟩
  | 9 => ⟨S_, .f32⟩
  | 10 => ⟨S128, .f32⟩
  | 11 => ⟨S_, .f32⟩
  | 12 => ⟨S128, .f32⟩
  | 13 => ⟨S128, .f32⟩
  | 14 => ⟨S128x1, .f32⟩
  | 15 => ⟨S128x16, .f32⟩
  | 16 => ⟨S128x16, .f32⟩
  | 17 => ⟨S128x16, .f32⟩
  | 18 => ⟨S_, .f32⟩
  | 19 => ⟨S128, .f32⟩
  | 20 => ⟨S128x1, .f32⟩
  | 21 => ⟨S128x16, .f32⟩
  | 22 => ⟨S128x16, .f32⟩
  | 23 => ⟨S128x1, .f32⟩
  | 24 => ⟨S128x1, .i32⟩
  | 25 => ⟨S_, .f32⟩
  | 26 => ⟨S128, .f32⟩
  | 27 => ⟨S128x1, .f32⟩
  | 28 => ⟨S_, .f32⟩
  | 29 => ⟨S128x1, .f32⟩
  | 30 => ⟨S128x1, .f32⟩
  | 31 => ⟨S128x1, .f32⟩
  | 32 => ⟨S_, .f32⟩
  | 33 => ⟨S128x768, .f32⟩
  | 34 => ⟨S128, .f32⟩
  | 35 => ⟨S128, .i32⟩
  | 36 => ⟨S_, .i32⟩
  | 37 => ⟨S128, .i32⟩
  | 38 => ⟨S128, .i1⟩
  | 39 => ⟨S128, .f32⟩
  | 40 => ⟨S1x1536x768, .f32⟩
  | 41 => ⟨S1536x768, .f32⟩
  | 42 => ⟨S768x1536, .f32⟩
  | 43 => ⟨S128x1536, .f32⟩
  | 44 => ⟨S1x1536, .f32⟩
  | 45 => ⟨S1536, .f32⟩
  | 46 => ⟨S1x1536, .f32⟩
  | 47 => ⟨S128x1536, .f32⟩
  | 48 => ⟨S128x1536, .f32⟩
  | 49 => ⟨S_, .f32⟩
  | 50 => ⟨S128x1536, .f32⟩
  | 51 => ⟨S128x1536, .f32⟩
  | 52 => ⟨S1x768x1536, .f32⟩
  | 53 => ⟨S768x1536, .f32⟩
  | 54 => ⟨S1536x768, .f32⟩
  | 55 => ⟨S128x768, .f32⟩
  | 56 => ⟨S1x768, .f32⟩
  | 57 => ⟨S768, .f32⟩
  | 58 => ⟨S1x768, .f32⟩
  | 59 => ⟨S128x768, .f32⟩
  | 60 => ⟨S128x768, .f32⟩
  | 61 => ⟨S128, .f32⟩
  | 62 => ⟨S128x1, .f32⟩
  | 63 => ⟨S128x768, .f32⟩
  | 64 => ⟨S128x768, .f32⟩
  | 65 => ⟨S128x768, .f32⟩
  | 66 => ⟨S_, .i32⟩
  | 67 => ⟨S128, .i32⟩
  | 68 => ⟨S128, .i1⟩
  | 69 => ⟨S128, .f32⟩
  | 70 => ⟨S1x1536x768, .f32⟩
  | 71 => ⟨S1536x768, .f32⟩
  | 72 => ⟨S768x1536, .f32⟩
  | 73 => ⟨S128x1536, .f32⟩
  | 74 => ⟨S1x1536, .f32⟩
  | 75 => ⟨S1536, .f32⟩
  | 76 => ⟨S1x1536, .f32⟩
  | 77 => ⟨S128x1536, .f32⟩
  | 78 => ⟨S128x1536, .f32⟩
  | 79 => ⟨S_, .f32⟩
  | 80 => ⟨S128x1536, .f32⟩
  | 81 => ⟨S128x1536, .f32⟩
  | 82 => ⟨S1x768x1536, .f32⟩
  | 83 => ⟨S768x1536, .f32⟩
  | 84 => ⟨S1536x768, .f32⟩
  | 85 => ⟨S128x768, .f32⟩
  | 86 => ⟨S1x768, .f32⟩
  | 87 => ⟨S768, .f32⟩
  | 88 => ⟨S1x768, .f32⟩
  | 89 => ⟨S128x768, .f32⟩
  | 90 => ⟨S128x768, .f32⟩
  | 91 => ⟨S128, .f32⟩
  | 92 => ⟨S128x1, .f32⟩
  | 93 => ⟨S128x768, .f32⟩
  | 94 => ⟨S128x768, .f32⟩
  | 95 => ⟨S128x768, .f32⟩
  | 96 => ⟨S_, .i32⟩
  | 97 => ⟨S128, .i32⟩
  | 98 => ⟨S128, .i1⟩
  | 99 => ⟨S128, .f32⟩
  | 100 => ⟨S1x1536x768, .f32⟩
  | 101 => ⟨S1536x768, .f32⟩
  | 102 => ⟨S768x1536, .f32⟩
  | 103 => ⟨S128x1536, .f32⟩
  | 104 => ⟨S1x1536, .f32⟩
  | 105 => ⟨S1536, .f32⟩
  | 106 => ⟨S1x1536, .f32⟩
  | 107 => ⟨S128x1536, .f32⟩
  | 108 => ⟨S128x1536, .f32⟩
  | 109 => ⟨S_, .f32⟩
  | 110 => ⟨S128x1536, .f32⟩
  | 111 => ⟨S128x1536, .f32⟩
  | 112 => ⟨S1x768x1536, .f32⟩
  | 113 => ⟨S768x1536, .f32⟩
  | 114 => ⟨S1536x768, .f32⟩
  | 115 => ⟨S128x768, .f32⟩
  | 116 => ⟨S1x768, .f32⟩
  | 117 => ⟨S768, .f32⟩
  | 118 => ⟨S1x768, .f32⟩
  | 119 => ⟨S128x768, .f32⟩
  | 120 => ⟨S128x768, .f32⟩
  | 121 => ⟨S128, .f32⟩
  | 122 => ⟨S128x1, .f32⟩
  | 123 => ⟨S128x768, .f32⟩
  | 124 => ⟨S128x768, .f32⟩
  | 125 => ⟨S128x768, .f32⟩
  | 126 => ⟨S_, .i32⟩
  | 127 => ⟨S128, .i32⟩
  | _ => ⟨S128x1x768, .f32⟩

abbrev hbmTy0_1 (i : Nat) : BufTy := match i % 128 with
  | 0 => ⟨S128, .i1⟩
  | 1 => ⟨S128, .f32⟩
  | 2 => ⟨S1x1536x768, .f32⟩
  | 3 => ⟨S1536x768, .f32⟩
  | 4 => ⟨S768x1536, .f32⟩
  | 5 => ⟨S128x1536, .f32⟩
  | 6 => ⟨S1x1536, .f32⟩
  | 7 => ⟨S1536, .f32⟩
  | 8 => ⟨S1x1536, .f32⟩
  | 9 => ⟨S128x1536, .f32⟩
  | 10 => ⟨S128x1536, .f32⟩
  | 11 => ⟨S_, .f32⟩
  | 12 => ⟨S128x1536, .f32⟩
  | 13 => ⟨S128x1536, .f32⟩
  | 14 => ⟨S1x768x1536, .f32⟩
  | 15 => ⟨S768x1536, .f32⟩
  | 16 => ⟨S1536x768, .f32⟩
  | 17 => ⟨S128x768, .f32⟩
  | 18 => ⟨S1x768, .f32⟩
  | 19 => ⟨S768, .f32⟩
  | 20 => ⟨S1x768, .f32⟩
  | 21 => ⟨S128x768, .f32⟩
  | 22 => ⟨S128x768, .f32⟩
  | 23 => ⟨S128, .f32⟩
  | 24 => ⟨S128x1, .f32⟩
  | 25 => ⟨S128x768, .f32⟩
  | 26 => ⟨S128x768, .f32⟩
  | 27 => ⟨S128x768, .f32⟩
  | 28 => ⟨S_, .i32⟩
  | 29 => ⟨S128, .i32⟩
  | 30 => ⟨S128, .i1⟩
  | 31 => ⟨S128, .f32⟩
  | 32 => ⟨S1x1536x768, .f32⟩
  | 33 => ⟨S1536x768, .f32⟩
  | 34 => ⟨S768x1536, .f32⟩
  | 35 => ⟨S128x1536, .f32⟩
  | 36 => ⟨S1x1536, .f32⟩
  | 37 => ⟨S1536, .f32⟩
  | 38 => ⟨S1x1536, .f32⟩
  | 39 => ⟨S128x1536, .f32⟩
  | 40 => ⟨S128x1536, .f32⟩
  | 41 => ⟨S_, .f32⟩
  | 42 => ⟨S128x1536, .f32⟩
  | 43 => ⟨S128x1536, .f32⟩
  | 44 => ⟨S1x768x1536, .f32⟩
  | 45 => ⟨S768x1536, .f32⟩
  | 46 => ⟨S1536x768, .f32⟩
  | 47 => ⟨S128x768, .f32⟩
  | 48 => ⟨S1x768, .f32⟩
  | 49 => ⟨S768, .f32⟩
  | 50 => ⟨S1x768, .f32⟩
  | 51 => ⟨S128x768, .f32⟩
  | 52 => ⟨S128x768, .f32⟩
  | 53 => ⟨S128, .f32⟩
  | 54 => ⟨S128x1, .f32⟩
  | 55 => ⟨S128x768, .f32⟩
  | 56 => ⟨S128x768, .f32⟩
  | 57 => ⟨S128x768, .f32⟩
  | 58 => ⟨S_, .i32⟩
  | 59 => ⟨S128, .i32⟩
  | 60 => ⟨S128, .i1⟩
  | 61 => ⟨S128, .f32⟩
  | 62 => ⟨S1x1536x768, .f32⟩
  | 63 => ⟨S1536x768, .f32⟩
  | 64 => ⟨S768x1536, .f32⟩
  | 65 => ⟨S128x1536, .f32⟩
  | 66 => ⟨S1x1536, .f32⟩
  | 67 => ⟨S1536, .f32⟩
  | 68 => ⟨S1x1536, .f32⟩
  | 69 => ⟨S128x1536, .f32⟩
  | 70 => ⟨S128x1536, .f32⟩
  | 71 => ⟨S_, .f32⟩
  | 72 => ⟨S128x1536, .f32⟩
  | 73 => ⟨S128x1536, .f32⟩
  | 74 => ⟨S1x768x1536, .f32⟩
  | 75 => ⟨S768x1536, .f32⟩
  | 76 => ⟨S1536x768, .f32⟩
  | 77 => ⟨S128x768, .f32⟩
  | 78 => ⟨S1x768, .f32⟩
  | 79 => ⟨S768, .f32⟩
  | 80 => ⟨S1x768, .f32⟩
  | 81 => ⟨S128x768, .f32⟩
  | 82 => ⟨S128x768, .f32⟩
  | 83 => ⟨S128, .f32⟩
  | 84 => ⟨S128x1, .f32⟩
  | 85 => ⟨S128x768, .f32⟩
  | 86 => ⟨S128x768, .f32⟩
  | 87 => ⟨S128x768, .f32⟩
  | 88 => ⟨S_, .i32⟩
  | 89 => ⟨S128, .i32⟩
  | 90 => ⟨S128, .i1⟩
  | 91 => ⟨S128, .f32⟩
  | 92 => ⟨S1x1536x768, .f32⟩
  | 93 => ⟨S1536x768, .f32⟩
  | 94 => ⟨S768x1536, .f32⟩
  | 95 => ⟨S128x1536, .f32⟩
  | 96 => ⟨S1x1536, .f32⟩
  | 97 => ⟨S1536, .f32⟩
  | 98 => ⟨S1x1536, .f32⟩
  | 99 => ⟨S128x1536, .f32⟩
  | 100 => ⟨S128x1536, .f32⟩
  | 101 => ⟨S_, .f32⟩
  | 102 => ⟨S128x1536, .f32⟩
  | 103 => ⟨S128x1536, .f32⟩
  | 104 => ⟨S1x768x1536, .f32⟩
  | 105 => ⟨S768x1536, .f32⟩
  | 106 => ⟨S1536x768, .f32⟩
  | 107 => ⟨S128x768, .f32⟩
  | 108 => ⟨S1x768, .f32⟩
  | 109 => ⟨S768, .f32⟩
  | 110 => ⟨S1x768, .f32⟩
  | 111 => ⟨S128x768, .f32⟩
  | 112 => ⟨S128x768, .f32⟩
  | 113 => ⟨S128, .f32⟩
  | 114 => ⟨S128x1, .f32⟩
  | 115 => ⟨S128x768, .f32⟩
  | 116 => ⟨S128x768, .f32⟩
  | 117 => ⟨S128x768, .f32⟩
  | 118 => ⟨S_, .i32⟩
  | 119 => ⟨S128, .i32⟩
  | 120 => ⟨S128, .i1⟩
  | 121 => ⟨S128, .f32⟩
  | 122 => ⟨S1x1536x768, .f32⟩
  | 123 => ⟨S1536x768, .f32⟩
  | 124 => ⟨S768x1536, .f32⟩
  | 125 => ⟨S128x1536, .f32⟩
  | 126 => ⟨S1x1536, .f32⟩
  | 127 => ⟨S1536, .f32⟩
  | _ => ⟨S128x1x768, .f32⟩

abbrev hbmTy0_2 (i : Nat) : BufTy := match i % 128 with
  | 0 => ⟨S1x1536, .f32⟩
  | 1 => ⟨S128x1536, .f32⟩
  | 2 => ⟨S128x1536, .f32⟩
  | 3 => ⟨S_, .f32⟩
  | 4 => ⟨S128x1536, .f32⟩
  | 5 => ⟨S128x1536, .f32⟩
  | 6 => ⟨S1x768x1536, .f32⟩
  | 7 => ⟨S768x1536, .f32⟩
  | 8 => ⟨S1536x768, .f32⟩
  | 9 => ⟨S128x768, .f32⟩
  | 10 => ⟨S1x768, .f32⟩
  | 11 => ⟨S768, .f32⟩
  | 12 => ⟨S1x768, .f32⟩
  | 13 => ⟨S128x768, .f32⟩
  | 14 => ⟨S128x768, .f32⟩
  | 15 => ⟨S128, .f32⟩
  | 16 => ⟨S128x1, .f32⟩
  | 17 => ⟨S128x768, .f32⟩
  | 18 => ⟨S128x768, .f32⟩
  | 19 => ⟨S128x768, .f32⟩
  | 20 => ⟨S_, .i32⟩
  | 21 => ⟨S128, .i32⟩
  | 22 => ⟨S128, .i1⟩
  | 23 => ⟨S128, .f32⟩
  | 24 => ⟨S1x1536x768, .f32⟩
  | 25 => ⟨S1536x768, .f32⟩
  | 26 => ⟨S768x1536, .f32⟩
  | 27 => ⟨S128x1536, .f32⟩
  | 28 => ⟨S1x1536, .f32⟩
  | 29 => ⟨S1536, .f32⟩
  | 30 => ⟨S1x1536, .f32⟩
  | 31 => ⟨S128x1536, .f32⟩
  | 32 => ⟨S128x1536, .f32⟩
  | 33 => ⟨S_, .f32⟩
  | 34 => ⟨S128x1536, .f32⟩
  | 35 => ⟨S128x1536, .f32⟩
  | 36 => ⟨S1x768x1536, .f32⟩
  | 37 => ⟨S768x1536, .f32⟩
  | 38 => ⟨S1536x768, .f32⟩
  | 39 => ⟨S128x768, .f32⟩
  | 40 => ⟨S1x768, .f32⟩
  | 41 => ⟨S768, .f32⟩
  | 42 => ⟨S1x768, .f32⟩
  | 43 => ⟨S128x768, .f32⟩
  | 44 => ⟨S128x768, .f32⟩
  | 45 => ⟨S128, .f32⟩
  | 46 => ⟨S128x1, .f32⟩
  | 47 => ⟨S128x768, .f32⟩
  | 48 => ⟨S128x768, .f32⟩
  | 49 => ⟨S128x768, .f32⟩
  | 50 => ⟨S_, .i32⟩
  | 51 => ⟨S128, .i32⟩
  | 52 => ⟨S128, .i1⟩
  | 53 => ⟨S128, .f32⟩
  | 54 => ⟨S1x1536x768, .f32⟩
  | 55 => ⟨S1536x768, .f32⟩
  | 56 => ⟨S768x1536, .f32⟩
  | 57 => ⟨S128x1536, .f32⟩
  | 58 => ⟨S1x1536, .f32⟩
  | 59 => ⟨S1536, .f32⟩
  | 60 => ⟨S1x1536, .f32⟩
  | 61 => ⟨S128x1536, .f32⟩
  | 62 => ⟨S128x1536, .f32⟩
  | 63 => ⟨S_, .f32⟩
  | 64 => ⟨S128x1536, .f32⟩
  | 65 => ⟨S128x1536, .f32⟩
  | 66 => ⟨S1x768x1536, .f32⟩
  | 67 => ⟨S768x1536, .f32⟩
  | 68 => ⟨S1536x768, .f32⟩
  | 69 => ⟨S128x768, .f32⟩
  | 70 => ⟨S1x768, .f32⟩
  | 71 => ⟨S768, .f32⟩
  | 72 => ⟨S1x768, .f32⟩
  | 73 => ⟨S128x768, .f32⟩
  | 74 => ⟨S128x768, .f32⟩
  | 75 => ⟨S128, .f32⟩
  | 76 => ⟨S128x1, .f32⟩
  | 77 => ⟨S128x768, .f32⟩
  | 78 => ⟨S128x768, .f32⟩
  | 79 => ⟨S128x768, .f32⟩
  | 80 => ⟨S_, .i32⟩
  | 81 => ⟨S128, .i32⟩
  | 82 => ⟨S128, .i1⟩
  | 83 => ⟨S128, .f32⟩
  | 84 => ⟨S1x1536x768, .f32⟩
  | 85 => ⟨S1536x768, .f32⟩
  | 86 => ⟨S768x1536, .f32⟩
  | 87 => ⟨S128x1536, .f32⟩
  | 88 => ⟨S1x1536, .f32⟩
  | 89 => ⟨S1536, .f32⟩
  | 90 => ⟨S1x1536, .f32⟩
  | 91 => ⟨S128x1536, .f32⟩
  | 92 => ⟨S128x1536, .f32⟩
  | 93 => ⟨S_, .f32⟩
  | 94 => ⟨S128x1536, .f32⟩
  | 95 => ⟨S128x1536, .f32⟩
  | 96 => ⟨S1x768x1536, .f32⟩
  | 97 => ⟨S768x1536, .f32⟩
  | 98 => ⟨S1536x768, .f32⟩
  | 99 => ⟨S128x768, .f32⟩
  | 100 => ⟨S1x768, .f32⟩
  | 101 => ⟨S768, .f32⟩
  | 102 => ⟨S1x768, .f32⟩
  | 103 => ⟨S128x768, .f32⟩
  | 104 => ⟨S128x768, .f32⟩
  | 105 => ⟨S128, .f32⟩
  | 106 => ⟨S128x1, .f32⟩
  | 107 => ⟨S128x768, .f32⟩
  | 108 => ⟨S128x768, .f32⟩
  | 109 => ⟨S128x768, .f32⟩
  | 110 => ⟨S_, .i32⟩
  | 111 => ⟨S128, .i32⟩
  | 112 => ⟨S128, .i1⟩
  | 113 => ⟨S128, .f32⟩
  | 114 => ⟨S1x1536x768, .f32⟩
  | 115 => ⟨S1536x768, .f32⟩
  | 116 => ⟨S768x1536, .f32⟩
  | 117 => ⟨S128x1536, .f32⟩
  | 118 => ⟨S1x1536, .f32⟩
  | 119 => ⟨S1536, .f32⟩
  | 120 => ⟨S1x1536, .f32⟩
  | 121 => ⟨S128x1536, .f32⟩
  | 122 => ⟨S128x1536, .f32⟩
  | 123 => ⟨S_, .f32⟩
  | 124 => ⟨S128x1536, .f32⟩
  | 125 => ⟨S128x1536, .f32⟩
  | 126 => ⟨S1x768x1536, .f32⟩
  | 127 => ⟨S768x1536, .f32⟩
  | _ => ⟨S128x1x768, .f32⟩

abbrev hbmTy0_3 (i : Nat) : BufTy := match i % 128 with
  | 0 => ⟨S1536x768, .f32⟩
  | 1 => ⟨S128x768, .f32⟩
  | 2 => ⟨S1x768, .f32⟩
  | 3 => ⟨S768, .f32⟩
  | 4 => ⟨S1x768, .f32⟩
  | 5 => ⟨S128x768, .f32⟩
  | 6 => ⟨S128x768, .f32⟩
  | 7 => ⟨S128, .f32⟩
  | 8 => ⟨S128x1, .f32⟩
  | 9 => ⟨S128x768, .f32⟩
  | 10 => ⟨S128x768, .f32⟩
  | 11 => ⟨S128x768, .f32⟩
  | 12 => ⟨S_, .i32⟩
  | 13 => ⟨S128, .i32⟩
  | 14 => ⟨S128, .i1⟩
  | 15 => ⟨S128, .f32⟩
  | 16 => ⟨S1x1536x768, .f32⟩
  | 17 => ⟨S1536x768, .f32⟩
  | 18 => ⟨S768x1536, .f32⟩
  | 19 => ⟨S128x1536, .f32⟩
  | 20 => ⟨S1x1536, .f32⟩
  | 21 => ⟨S1536, .f32⟩
  | 22 => ⟨S1x1536, .f32⟩
  | 23 => ⟨S128x1536, .f32⟩
  | 24 => ⟨S128x1536, .f32⟩
  | 25 => ⟨S_, .f32⟩
  | 26 => ⟨S128x1536, .f32⟩
  | 27 => ⟨S128x1536, .f32⟩
  | 28 => ⟨S1x768x1536, .f32⟩
  | 29 => ⟨S768x1536, .f32⟩
  | 30 => ⟨S1536x768, .f32⟩
  | 31 => ⟨S128x768, .f32⟩
  | 32 => ⟨S1x768, .f32⟩
  | 33 => ⟨S768, .f32⟩
  | 34 => ⟨S1x768, .f32⟩
  | 35 => ⟨S128x768, .f32⟩
  | 36 => ⟨S128x768, .f32⟩
  | 37 => ⟨S128, .f32⟩
  | 38 => ⟨S128x1, .f32⟩
  | 39 => ⟨S128x768, .f32⟩
  | 40 => ⟨S128x768, .f32⟩
  | 41 => ⟨S128x768, .f32⟩
  | 42 => ⟨S_, .i32⟩
  | 43 => ⟨S128, .i32⟩
  | 44 => ⟨S128, .i1⟩
  | 45 => ⟨S128, .f32⟩
  | 46 => ⟨S1x1536x768, .f32⟩
  | 47 => ⟨S1536x768, .f32⟩
  | 48 => ⟨S768x1536, .f32⟩
  | 49 => ⟨S128x1536, .f32⟩
  | 50 => ⟨S1x1536, .f32⟩
  | 51 => ⟨S1536, .f32⟩
  | 52 => ⟨S1x1536, .f32⟩
  | 53 => ⟨S128x1536, .f32⟩
  | 54 => ⟨S128x1536, .f32⟩
  | 55 => ⟨S_, .f32⟩
  | 56 => ⟨S128x1536, .f32⟩
  | 57 => ⟨S128x1536, .f32⟩
  | 58 => ⟨S1x768x1536, .f32⟩
  | 59 => ⟨S768x1536, .f32⟩
  | 60 => ⟨S1536x768, .f32⟩
  | 61 => ⟨S128x768, .f32⟩
  | 62 => ⟨S1x768, .f32⟩
  | 63 => ⟨S768, .f32⟩
  | 64 => ⟨S1x768, .f32⟩
  | 65 => ⟨S128x768, .f32⟩
  | 66 => ⟨S128x768, .f32⟩
  | 67 => ⟨S128, .f32⟩
  | 68 => ⟨S128x1, .f32⟩
  | 69 => ⟨S128x768, .f32⟩
  | 70 => ⟨S128x768, .f32⟩
  | 71 => ⟨S128x768, .f32⟩
  | 72 => ⟨S_, .i32⟩
  | 73 => ⟨S128, .i32⟩
  | 74 => ⟨S128, .i1⟩
  | 75 => ⟨S128, .f32⟩
  | 76 => ⟨S1x1536x768, .f32⟩
  | 77 => ⟨S1536x768, .f32⟩
  | 78 => ⟨S768x1536, .f32⟩
  | 79 => ⟨S128x1536, .f32⟩
  | 80 => ⟨S1x1536, .f32⟩
  | 81 => ⟨S1536, .f32⟩
  | 82 => ⟨S1x1536, .f32⟩
  | 83 => ⟨S128x1536, .f32⟩
  | 84 => ⟨S128x1536, .f32⟩
  | 85 => ⟨S_, .f32⟩
  | 86 => ⟨S128x1536, .f32⟩
  | 87 => ⟨S128x1536, .f32⟩
  | 88 => ⟨S1x768x1536, .f32⟩
  | 89 => ⟨S768x1536, .f32⟩
  | 90 => ⟨S1536x768, .f32⟩
  | 91 => ⟨S128x768, .f32⟩
  | 92 => ⟨S1x768, .f32⟩
  | 93 => ⟨S768, .f32⟩
  | 94 => ⟨S1x768, .f32⟩
  | 95 => ⟨S128x768, .f32⟩
  | 96 => ⟨S128x768, .f32⟩
  | 97 => ⟨S128, .f32⟩
  | 98 => ⟨S128x1, .f32⟩
  | 99 => ⟨S128x768, .f32⟩
  | 100 => ⟨S128x768, .f32⟩
  | 101 => ⟨S128x768, .f32⟩
  | 102 => ⟨S_, .i32⟩
  | 103 => ⟨S128, .i32⟩
  | 104 => ⟨S128, .i1⟩
  | 105 => ⟨S128, .f32⟩
  | 106 => ⟨S1x1536x768, .f32⟩
  | 107 => ⟨S1536x768, .f32⟩
  | 108 => ⟨S768x1536, .f32⟩
  | 109 => ⟨S128x1536, .f32⟩
  | 110 => ⟨S1x1536, .f32⟩
  | 111 => ⟨S1536, .f32⟩
  | 112 => ⟨S1x1536, .f32⟩
  | 113 => ⟨S128x1536, .f32⟩
  | 114 => ⟨S128x1536, .f32⟩
  | 115 => ⟨S_, .f32⟩
  | 116 => ⟨S128x1536, .f32⟩
  | 117 => ⟨S128x1536, .f32⟩
  | 118 => ⟨S1x768x1536, .f32⟩
  | 119 => ⟨S768x1536, .f32⟩
  | 120 => ⟨S1536x768, .f32⟩
  | 121 => ⟨S128x768, .f32⟩
  | 122 => ⟨S1x768, .f32⟩
  | 123 => ⟨S768, .f32⟩
  | 124 => ⟨S1x768, .f32⟩
  | 125 => ⟨S128x768, .f32⟩
  | 126 => ⟨S128x768, .f32⟩
  | 127 => ⟨S128, .f32⟩
  | _ => ⟨S128x1x768, .f32⟩

abbrev hbmTy0_4 (i : Nat) : BufTy := match i % 128 with
  | 0 => ⟨S128x1, .f32⟩
  | 1 => ⟨S128x768, .f32⟩
  | 2 => ⟨S128x768, .f32⟩
  | 3 => ⟨S128x768, .f32⟩
  | 4 => ⟨S128x768, .f32⟩
  | _ => ⟨S128x1x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x1x768, .f32⟩

abbrev bufTy : (tb : Table) → Fin (tcTables nBuf tb) → BufTy
  | .hbm, ⟨i, _⟩ => hbmTy i
  | _, _ => ⟨S128x1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call1_cst : Ref sig .tc := ⟨.hbm, 79, rfl⟩
abbrev main_call1_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_6 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_call2_cst : Ref sig .tc := ⟨.hbm, 109, rfl⟩
abbrev main_call2_v0 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_7 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_call3_cst : Ref sig .tc := ⟨.hbm, 139, rfl⟩
abbrev main_call3_v0 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_c_8 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_call4_cst : Ref sig .tc := ⟨.hbm, 169, rfl⟩
abbrev main_call4_v0 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_c_9 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_call5_cst : Ref sig .tc := ⟨.hbm, 199, rfl⟩
abbrev main_call5_v0 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_c_10 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_call6_cst : Ref sig .tc := ⟨.hbm, 229, rfl⟩
abbrev main_call6_v0 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_c_11 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_call7_cst : Ref sig .tc := ⟨.hbm, 259, rfl⟩
abbrev main_call7_v0 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_c_12 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_call8_cst : Ref sig .tc := ⟨.hbm, 289, rfl⟩
abbrev main_call8_v0 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_c_13 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_call9_cst : Ref sig .tc := ⟨.hbm, 319, rfl⟩
abbrev main_call9_v0 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_c_14 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_call10_cst : Ref sig .tc := ⟨.hbm, 349, rfl⟩
abbrev main_call10_v0 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩
abbrev main_c_15 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_call11_cst : Ref sig .tc := ⟨.hbm, 379, rfl⟩
abbrev main_call11_v0 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_c_16 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_v354 : Ref sig .tc := ⟨.hbm, 405, rfl⟩
abbrev main_v355 : Ref sig .tc := ⟨.hbm, 406, rfl⟩
abbrev main_v356 : Ref sig .tc := ⟨.hbm, 407, rfl⟩
abbrev main_v357 : Ref sig .tc := ⟨.hbm, 408, rfl⟩
abbrev main_call12_cst : Ref sig .tc := ⟨.hbm, 409, rfl⟩
abbrev main_call12_v0 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_c_17 : Ref sig .tc := ⟨.hbm, 426, rfl⟩
abbrev main_v373 : Ref sig .tc := ⟨.hbm, 427, rfl⟩
abbrev main_v374 : Ref sig .tc := ⟨.hbm, 428, rfl⟩
abbrev main_v375 : Ref sig .tc := ⟨.hbm, 429, rfl⟩
abbrev main_v376 : Ref sig .tc := ⟨.hbm, 430, rfl⟩
abbrev main_v377 : Ref sig .tc := ⟨.hbm, 431, rfl⟩
abbrev main_v378 : Ref sig .tc := ⟨.hbm, 432, rfl⟩
abbrev main_v379 : Ref sig .tc := ⟨.hbm, 433, rfl⟩
abbrev main_v380 : Ref sig .tc := ⟨.hbm, 434, rfl⟩
abbrev main_v381 : Ref sig .tc := ⟨.hbm, 435, rfl⟩
abbrev main_v382 : Ref sig .tc := ⟨.hbm, 436, rfl⟩
abbrev main_v383 : Ref sig .tc := ⟨.hbm, 437, rfl⟩
abbrev main_v384 : Ref sig .tc := ⟨.hbm, 438, rfl⟩
abbrev main_call13_cst : Ref sig .tc := ⟨.hbm, 439, rfl⟩
abbrev main_call13_v0 : Ref sig .tc := ⟨.hbm, 440, rfl⟩
abbrev main_v385 : Ref sig .tc := ⟨.hbm, 441, rfl⟩
abbrev main_v386 : Ref sig .tc := ⟨.hbm, 442, rfl⟩
abbrev main_v387 : Ref sig .tc := ⟨.hbm, 443, rfl⟩
abbrev main_v388 : Ref sig .tc := ⟨.hbm, 444, rfl⟩
abbrev main_v389 : Ref sig .tc := ⟨.hbm, 445, rfl⟩
abbrev main_v390 : Ref sig .tc := ⟨.hbm, 446, rfl⟩
abbrev main_v391 : Ref sig .tc := ⟨.hbm, 447, rfl⟩
abbrev main_v392 : Ref sig .tc := ⟨.hbm, 448, rfl⟩
abbrev main_v393 : Ref sig .tc := ⟨.hbm, 449, rfl⟩
abbrev main_v394 : Ref sig .tc := ⟨.hbm, 450, rfl⟩
abbrev main_v395 : Ref sig .tc := ⟨.hbm, 451, rfl⟩
abbrev main_v396 : Ref sig .tc := ⟨.hbm, 452, rfl⟩
abbrev main_v397 : Ref sig .tc := ⟨.hbm, 453, rfl⟩
abbrev main_v398 : Ref sig .tc := ⟨.hbm, 454, rfl⟩
abbrev main_v399 : Ref sig .tc := ⟨.hbm, 455, rfl⟩
abbrev main_c_18 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_call14_cst : Ref sig .tc := ⟨.hbm, 469, rfl⟩
abbrev main_call14_v0 : Ref sig .tc := ⟨.hbm, 470, rfl⟩
abbrev main_v412 : Ref sig .tc := ⟨.hbm, 471, rfl⟩
abbrev main_v413 : Ref sig .tc := ⟨.hbm, 472, rfl⟩
abbrev main_v414 : Ref sig .tc := ⟨.hbm, 473, rfl⟩
abbrev main_v415 : Ref sig .tc := ⟨.hbm, 474, rfl⟩
abbrev main_v416 : Ref sig .tc := ⟨.hbm, 475, rfl⟩
abbrev main_v417 : Ref sig .tc := ⟨.hbm, 476, rfl⟩
abbrev main_v418 : Ref sig .tc := ⟨.hbm, 477, rfl⟩
abbrev main_v419 : Ref sig .tc := ⟨.hbm, 478, rfl⟩
abbrev main_v420 : Ref sig .tc := ⟨.hbm, 479, rfl⟩
abbrev main_v421 : Ref sig .tc := ⟨.hbm, 480, rfl⟩
abbrev main_v422 : Ref sig .tc := ⟨.hbm, 481, rfl⟩
abbrev main_v423 : Ref sig .tc := ⟨.hbm, 482, rfl⟩
abbrev main_v424 : Ref sig .tc := ⟨.hbm, 483, rfl⟩
abbrev main_v425 : Ref sig .tc := ⟨.hbm, 484, rfl⟩
abbrev main_v426 : Ref sig .tc := ⟨.hbm, 485, rfl⟩
abbrev main_c_19 : Ref sig .tc := ⟨.hbm, 486, rfl⟩
abbrev main_v427 : Ref sig .tc := ⟨.hbm, 487, rfl⟩
abbrev main_v428 : Ref sig .tc := ⟨.hbm, 488, rfl⟩
abbrev main_v429 : Ref sig .tc := ⟨.hbm, 489, rfl⟩
abbrev main_v430 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩
abbrev main_v434 : Ref sig .tc := ⟨.hbm, 494, rfl⟩
abbrev main_v435 : Ref sig .tc := ⟨.hbm, 495, rfl⟩
abbrev main_v436 : Ref sig .tc := ⟨.hbm, 496, rfl⟩
abbrev main_v437 : Ref sig .tc := ⟨.hbm, 497, rfl⟩
abbrev main_v438 : Ref sig .tc := ⟨.hbm, 498, rfl⟩
abbrev main_call15_cst : Ref sig .tc := ⟨.hbm, 499, rfl⟩
abbrev main_call15_v0 : Ref sig .tc := ⟨.hbm, 500, rfl⟩
abbrev main_v439 : Ref sig .tc := ⟨.hbm, 501, rfl⟩
abbrev main_v440 : Ref sig .tc := ⟨.hbm, 502, rfl⟩
abbrev main_v441 : Ref sig .tc := ⟨.hbm, 503, rfl⟩
abbrev main_v442 : Ref sig .tc := ⟨.hbm, 504, rfl⟩
abbrev main_v443 : Ref sig .tc := ⟨.hbm, 505, rfl⟩
abbrev main_v444 : Ref sig .tc := ⟨.hbm, 506, rfl⟩
abbrev main_v445 : Ref sig .tc := ⟨.hbm, 507, rfl⟩
abbrev main_v446 : Ref sig .tc := ⟨.hbm, 508, rfl⟩
abbrev main_v447 : Ref sig .tc := ⟨.hbm, 509, rfl⟩
abbrev main_v448 : Ref sig .tc := ⟨.hbm, 510, rfl⟩
abbrev main_v449 : Ref sig .tc := ⟨.hbm, 511, rfl⟩
abbrev main_v450 : Ref sig .tc := ⟨.hbm, 512, rfl⟩
abbrev main_v451 : Ref sig .tc := ⟨.hbm, 513, rfl⟩
abbrev main_v452 : Ref sig .tc := ⟨.hbm, 514, rfl⟩
abbrev main_v453 : Ref sig .tc := ⟨.hbm, 515, rfl⟩
abbrev main_v454 : Ref sig .tc := ⟨.hbm, 516, rfl⟩

abbrev nD : Nat := 1
abbrev τ : Topo := Topo.v7x

variable {F : FTy → Type} [FloatOps F]
-- ==== Proof.Router.lean ====
/- The router's mathematics on the extended reals, without a program: one token's sixteen logits `l`, the expert
   that a stable top-1 of their softmax picks, and the weight it gets. -/
module

public import Idealize.ShloMosaic.PureOps.Ideal
public import Idealize.ShloMosaic.PureOps.ShapeOps
public import Idealize.ShloMosaic.Lib.IdealHost
public import Idealize.ShloMosaic.Lib.SortFacts

@[expose] public section

noncomputable section

namespace Cert.Proof.Router

open Idealize.ShloMosaic

/-- `h` is the first position at which `v` takes its greatest value. -/
def IsFirstMax {n : ℕ} (v : Fin n → EReal) (h : Fin n) : Prop :=
  (∀ j, v j ≤ v h) ∧ ∀ j, j < h → v j < v h

/-- The greatest of the values, folded from minus infinity. -/
def top {n : ℕ} (v : Fin n → EReal) : EReal := Finset.univ.fold max ⊥ v

/-- The sum of the exponentials of the values' distances from the greatest one. -/
def mass {n : ℕ} (l : Fin n → EReal) : EReal := ∑ j, Ideal.exp (l j - top l)

/-- The softmax of the values. -/
def soft {n : ℕ} (l : Fin n → EReal) (j : Fin n) : EReal := Ideal.div (Ideal.exp (l j - top l)) (mass l)

/-- At a first greatest position the value is the greatest value. -/
theorem IsFirstMax.top_eq {n : ℕ} {v : Fin n → EReal} {h : Fin n} (hv : IsFirstMax v h) : top v = v h :=
  le_antisymm ((Finset.fold_max_le _).2 ⟨bot_le, fun j _ => hv.1 j⟩)
    ((Finset.le_fold_max _).2 (Or.inr ⟨h, Finset.mem_univ h, le_rfl⟩))

/-- No value exceeds the greatest one. -/
theorem le_top' {n : ℕ} (v : Fin n → EReal) (j : Fin n) : v j ≤ top v :=
  (Finset.le_fold_max _).2 (Or.inr ⟨j, Finset.mem_univ j, le_rfl⟩)

/-- Some value equals the greatest one, when that is not minus infinity. -/
theorem exists_eq_top {n : ℕ} (v : Fin n → EReal) (hb : top v ≠ ⊥) : ∃ j, v j = top v := by
  rcases (Finset.le_fold_max (f := v) (s := Finset.univ) (b := ⊥) (top v)).1 le_rfl with h | ⟨j, _, h⟩
  · exact absurd (le_bot_iff.1 h) hb
  · exact ⟨j, le_antisymm (le_top' v j) h⟩

/-- The head of a stable insertion sort, greater first, of a list of increasing positions: no position of the list
    has a greater value, and the earlier ones have smaller values. -/
theorem head_stableSort {n : ℕ} (v : Fin n → EReal) (R : Fin n → Fin n → Bool)
    (hR : ∀ i j, R i j = true ↔ v j < v i) (l : List (Fin n)) (hl : l.Pairwise (· < ·)) :
    ∀ b ∈ (stableSort R l).head?, ∀ c ∈ l, v c ≤ v b ∧ (c < b → v c < v b) := by
  induction l with
  | nil => intro b hb; simp [stableSort] at hb
  | cons a l ih =>
    rw [List.pairwise_cons] at hl
    intro b hb
    cases hs : stableSort R l with
    | nil =>
      have hlen := length_stableSort R l
      rw [hs] at hlen
      obtain rfl : l = [] := List.eq_nil_of_length_eq_zero hlen.symm
      simp only [stableSort, insertBefore, List.head?_cons, Option.mem_def, Option.some.injEq] at hb
      subst hb
      intro c hc
      obtain rfl : c = a := by simpa using hc
      exact ⟨le_rfl, fun h => absurd h (lt_irrefl _)⟩
    | cons d m =>
      have ihd := ih hl.2 d (by rw [hs]; rfl)
      have hd : d ∈ l := (perm_stableSort R l).mem_iff.1 (by rw [hs]; exact List.mem_cons_self)
      have had : a < d := hl.1 d hd
      simp only [stableSort, hs, insertBefore] at hb
      by_cases h : R d a = true
      · rw [if_pos h] at hb
        obtain rfl : d = b := by simpa using hb
        intro c hc
        rcases List.mem_cons.1 hc with rfl | hc
        · exact ⟨((hR _ _).1 h).le, fun _ => (hR _ _).1 h⟩
        · exact ihd c hc
      · rw [if_neg h] at hb
        obtain rfl : a = b := by simpa using hb
        have hda : v d ≤ v a := not_lt.1 fun hlt => h ((hR _ _).2 hlt)
        intro c hc
        rcases List.mem_cons.1 hc with rfl | hc
        · exact ⟨le_rfl, fun h' => absurd h' (lt_irrefl _)⟩
        · exact ⟨(ihd c hc).1.trans hda, fun h' => absurd (h'.trans (hl.1 c hc)) (lt_irrefl _)⟩

/-- A stable sort, greater first, puts the first greatest position in front. -/
theorem isFirstMax_sortedFrom {n : ℕ} (v : Fin (n + 1) → EReal) (R : Fin (n + 1) → Fin (n + 1) → Bool)
    (hR : ∀ i j, R i j = true ↔ v j < v i) : IsFirstMax v (sortedFrom R 0) := by
  have hp : (List.finRange (n + 1)).Pairwise (· < ·) := List.pairwise_lt_finRange _
  have hh : sortedFrom R 0 ∈ (stableSort R (List.finRange (n + 1))).head? := by
    have hget : ∀ (L : List (Fin (n + 1))) (i : Fin L.length), i.val = 0 → L.get i ∈ L.head? := fun L i hi => by
      cases L with
      | nil => exact i.elim0
      | cons d m => obtain rfl : i = ⟨0, Nat.succ_pos _⟩ := Fin.ext hi; simp
    exact hget _ _ rfl
  have := head_stableSort v R hR _ hp _ hh
  exact ⟨fun j => (this j (List.mem_finRange j)).1, fun j => (this j (List.mem_finRange j)).2⟩

/-- The exponential of the distance of a value from a finite greater one is a nonnegative real. -/
theorem exp_sub_real {M : ℝ} {a : EReal} (ha : a ≤ M) : ∃ r : ℝ, 0 ≤ r ∧ Ideal.exp (a - M) = r := by
  induction a using EReal.rec with
  | bot => exact ⟨0, le_rfl, by simp⟩
  | coe a => exact ⟨Real.exp (a - M), (Real.exp_pos _).le, by rw [← EReal.coe_sub, Ideal.exp_coe]⟩
  | top => exact absurd ha (by simp)

/-- Among values up to a finite one, a smaller value has the smaller exponential. -/
theorem exp_sub_lt {M : ℝ} {a b : EReal} (hab : a < b) (hb : b ≤ M) : Ideal.exp (a - M) < Ideal.exp (b - M) := by
  induction b using EReal.rec with
  | bot => exact absurd hab (by simp)
  | top => exact absurd hb (by simp)
  | coe b =>
    rw [← EReal.coe_sub, Ideal.exp_coe]
    induction a using EReal.rec with
    | bot => simpa using Real.exp_pos (b - M)
    | top => exact absurd hab (by simp)
    | coe a =>
      rw [← EReal.coe_sub, Ideal.exp_coe, EReal.coe_lt_coe_iff, Real.exp_lt_exp]
      have : a < b := EReal.coe_lt_coe_iff.1 hab
      linarith

/-- With a finite greatest logit the mass is a positive real. -/
theorem mass_real {n : ℕ} (l : Fin n → EReal) {M : ℝ} (hM : top l = M) : ∃ s : ℝ, 0 < s ∧ mass l = s := by
  have hr : ∀ j, ∃ r : ℝ, 0 ≤ r ∧ Ideal.exp (l j - top l) = r := fun j => by
    rw [hM]; exact exp_sub_real (hM ▸ le_top' l j)
  choose r hr0 hr using hr
  obtain ⟨k, hk⟩ := exists_eq_top l (by rw [hM]; exact EReal.coe_ne_bot M)
  have hk1 : r k = 1 := by
    have := hr k
    rw [hk, hM, ← EReal.coe_sub, sub_self, Ideal.exp_coe, Real.exp_zero] at this
    exact (EReal.coe_eq_coe_iff.1 this).symm
  refine ⟨∑ j, r j, Finset.sum_pos' (fun j _ => hr0 j) ⟨k, Finset.mem_univ k, by rw [hk1]; norm_num⟩, ?_⟩
  unfold mass
  simp only [hr]
  exact (map_sum (⟨⟨Real.toEReal, EReal.coe_zero⟩, EReal.coe_add⟩ : ℝ →+ EReal) r Finset.univ).symm

/-- The first greatest position of the softmax is the first greatest position of the logits. -/
theorem isFirstMax_of_soft {n : ℕ} (l : Fin n → EReal) {M : ℝ} (hM : top l = M) {h : Fin n}
    (hs : IsFirstMax (soft l) h) : IsFirstMax l h := by
  obtain ⟨s, hs0, hsm⟩ := mass_real l hM
  have hlt : ∀ i j, l i < l j → soft l i < soft l j := fun i j hij => by
    obtain ⟨x, _, hx⟩ := exp_sub_real (M := M) (hM ▸ le_top' l i)
    obtain ⟨y, _, hy⟩ := exp_sub_real (M := M) (hM ▸ le_top' l j)
    have hxy := exp_sub_lt (M := M) hij (hM ▸ le_top' l j)
    rw [hx, hy, EReal.coe_lt_coe_iff] at hxy
    unfold soft
    rw [hM, hsm, Ideal.div_coe hs0.ne', Ideal.div_coe hs0.ne', hx, hy, ← EReal.coe_mul, ← EReal.coe_mul,
      EReal.coe_lt_coe_iff]
    exact mul_lt_mul_of_pos_right hxy (by positivity)
  have hmax : ∀ j, l j ≤ l h := fun j => not_lt.1 fun hj => absurd (hs.1 j) (not_le.2 (hlt h j hj))
  refine ⟨hmax, fun j hj => lt_of_le_of_ne (hmax j) fun he => ?_⟩
  have := hs.2 j hj
  unfold soft at this
  rw [he] at this
  exact lt_irrefl _ this

/-- The weight of the picked expert: the kernel's quotient of one by one plus a constant times the mass is the
    reference's softmax value over its sum with that constant. -/
theorem weight_eq {n : ℕ} (l : Fin n → EReal) {M : ℝ} (hM : top l = M) {h : Fin n} (hl : IsFirstMax l h)
    {c : ℝ} (hc : 0 < c) :
    Ideal.div 1 (1 + (c : EReal) * mass l) = Ideal.div (soft l h) (soft l h + c) := by
  obtain ⟨s, hs0, hsm⟩ := mass_real l hM
  have hsoft : soft l h = ((1 / s : ℝ) : EReal) := by
    unfold soft
    rw [hsm, Ideal.div_coe hs0.ne', ← hl.top_eq, hM, ← EReal.coe_sub, sub_self, Ideal.exp_coe, Real.exp_zero,
      EReal.coe_one, one_mul]
  have h1 : (1 : ℝ) + c * s ≠ 0 := by positivity
  have h2 : (1 / s : ℝ) + c ≠ 0 := by positivity
  rw [hsoft, hsm, ← EReal.coe_mul, ← EReal.coe_one, ← EReal.coe_add, ← EReal.coe_add, Ideal.div_coe h1, Ideal.div_coe h2,
    ← EReal.coe_mul, ← EReal.coe_mul, EReal.coe_eq_coe_iff]
  field_simp

/-- The constant that the router adds, a positive real. -/
theorem eps_real : ∃ c : ℝ, 0 < c ∧ Ideal.ofBits .f32 0x322BCC77#32 = (c : EReal) := by
  refine ⟨11258999 * (2 : ℝ) ^ (-50 : ℤ), by positivity, ?_⟩
  simp [Ideal.ofBits, Ideal.ieee, -EReal.coe_mul]

end Cert.Proof.Router

end

end
-- ==== Proof.Spec.lean ====
/- The layer's mathematics for one token, over plain functions of finite indices: its logits, what one expert makes of
   it, and the sum of the gated experts onto the token. -/
module

public import proofs.«01_k».proof.Proof.Router
public import Idealize.ShloMosaic.Lib.Pointwise

@[expose] public section

noncomputable section

namespace Cert.Proof.Spec

open Idealize.ShloMosaic

/-- The logits of a token `x`: its products with the rows of the router's matrix. -/
def logits (x : Fin 768 → EReal) (g : Fin 16 → Fin 768 → EReal) (e : Fin 16) : EReal := ∑ k, x k * g e k

/-- One expert's answer to a token: two affine maps with the positive part between them. -/
def expert (x : Fin 768 → EReal) (w1 : Fin 1536 → Fin 768 → EReal) (b1 : Fin 1536 → EReal)
    (w2 : Fin 768 → Fin 1536 → EReal) (b2 : Fin 768 → EReal) (d : Fin 768) : EReal :=
  (∑ j, max ((∑ k, x k * w1 j k) + b1 j) 0 * w2 d j) + b2 d

/-- The gate of expert `e` when expert `h` is picked with weight `w`. -/
def gate (h : Fin 16) (w : EReal) (e : Fin 16) : EReal := if h = e then w else 0

/-- The weight that a token with logits `l` gives its picked expert, in the kernel's form. -/
def weight (l : Fin 16 → EReal) : EReal := Ideal.div 1 (1 + Ideal.ofBits .f32 0x322BCC77#32 * Router.mass l)

/-- The logits of token `r` of the batch `x`. -/
def tokenLogits (x : (⟨3, ![128, 1, 768]⟩ : Shape).Idx → EReal) (g : (⟨2, ![16, 768]⟩ : Shape).Idx → EReal) (r : Fin 128) :
    Fin 16 → EReal :=
  logits (fun k => x (ix3 r 0 k)) (fun e k => g (ix2 e k))

/-- Expert `e`'s answer to token `r` of the batch `x`. -/
def answer (x : (⟨3, ![128, 1, 768]⟩ : Shape).Idx → EReal) (W1 : (⟨3, ![16, 1536, 768]⟩ : Shape).Idx → EReal)
    (b1 : (⟨2, ![16, 1536]⟩ : Shape).Idx → EReal) (W2 : (⟨3, ![16, 768, 1536]⟩ : Shape).Idx → EReal)
    (b2 : (⟨2, ![16, 768]⟩ : Shape).Idx → EReal) (r : Fin 128) (e : Fin 16) : Fin 768 → EReal :=
  expert (fun k => x (ix3 r 0 k)) (fun j k => W1 (ix3 e j k)) (fun j => b1 (ix2 e j)) (fun d j => W2 (ix3 e d j))
    (fun d => b2 (ix2 e d))

end Cert.Proof.Spec

end

end
-- ==== Proof.Precondition.lean ====
/- What the precondition says: every token's greatest logit is a real number. -/
module

public import Idealize.ShloMosaic.Lib.Pointwise
public import proofs.«01_k».proof.Proof.Spec
public import proofs.«01_k».proof.Pre_top_logit_finite

@[expose] public section

noncomputable section

namespace Cert.Proof.Precondition

open Idealize.ShloMosaic Cert.Pre_top_logit_finite

/-- The side conditions that the precondition's operations state. -/
instance facts : Cert.Pre_top_logit_finite.Facts where
  shapeCasts_S128x1x768_S128x768 := by decide
  transposes_S16x768_S768x16_1_0 := by decide
  reducesTo_S128x16_S128_d1 := by decide
  h_S_ := by decide
  bcast_S_S128 := by decide
  dot_S128x768_S768x16_S128x16_1_0_0_1_n_n_wf := by decide

/-- An extended real whose absolute value is below the greatest one is a real number. -/
theorem real_of_abs_lt_top {x : EReal} (h : max x (-x) < ⊤) : ∃ M : ℝ, x = M := by
  induction x with
  | bot => simp at h
  | top => simp at h
  | coe M => exact ⟨M, rfl⟩

/-- A truth value that reads one as a word is true. -/
theorem of_word_one {p : Prop} [Decidable p] (h : BitVec.ofBool (decide p) = 1#1) : p := by
  by_cases hp : p
  · exact hp
  · rw [decide_eq_false hp] at h
    exact absurd h (by decide)

/-- Where the precondition holds, the greatest logit of every token is a real number. -/
theorem top_real (x : FVec Ideal S128x1x768 .f32) (g : FVec Ideal S16x768 .f32) (W1 : FVec Ideal S16x1536x768 .f32)
    (b1 : FVec Ideal S16x1536 .f32) (W2 : FVec Ideal S16x768x1536 .f32) (b2 : FVec Ideal S16x768 .f32) (r : Fin 128)
    (h : fn (F := Ideal) x g W1 b1 W2 b2 (ix1 r) = 1#1) : ∃ M : ℝ, Router.top (Spec.tokenLogits x g r) = M := by
  unfold fn at h
  pointwise at h
  refine real_of_abs_lt_top (x := Router.top (Spec.tokenLogits x g r)) ?_
  exact of_word_one h

end Cert.Proof.Precondition

end
-- ==== Proof.Payload.lean ====
/- What the kernel's body computes at one element of each of its vectors: the logits, their greatest value, the
   picked lane, the weight, and one expert's gated answer. -/
module

public import proofs.«01_k».proof.Proof.Spec
public import proofs.«01_k».proof.Proof.Gen.KernelIdeal.Skeleton
public import Idealize.ShloMosaic.Lib.Pointwise
public import Idealize.ShloMosaic.Lib.SortNet.Extract

@[expose] public section

noncomputable section

namespace Cert.Proof.Payload

open Idealize.ShloMosaic Cert.KernelIdeal Cert.KernelIdeal.Gen

set_option maxRecDepth 16384

/-- The token's row and the router's rows, as the specification takes them. -/
abbrev rowLogits (x : FVec Ideal S128x768 .f32) (g : FVec Ideal S16x768 .f32) (t : Fin 128) : Fin 16 → EReal :=
  Spec.logits (fun k => x (ix2 t k)) (fun e k => g (ix2 e k))

/-- The body's logit of token `t` for expert `e`. -/
theorem pay4_apply (x : FVec Ideal S128x768 .f32) (g : FVec Ideal S16x768 .f32) (t : Fin 128) (e : Fin 16) :
    k0_pay4 (F := Ideal) x g (ix2 t e) = rowLogits x g t e := by
  pointwise [k0_pay4, k0_pay3]
  rfl

/-- The body's row maximum is the greatest logit of the token. -/
theorem pay5_apply (x : FVec Ideal S128x768 .f32) (g : FVec Ideal S16x768 .f32) (t : Fin 128) :
    k0_pay5 (F := Ideal) x g (ix2 t 0) = Router.top (rowLogits x g t) := by
  pointwise [k0_pay5, pay4_apply]
  rfl

/-- The least lane, among those whose logit is the greatest one and sixteen elsewhere, is the first greatest
    position. -/
theorem toInt_first_lane (l : Fin 16 → EReal) {h : Fin 16} (hl : Router.IsFirstMax l h) :
    (Finset.fold IntOp.minsi 2147483647#32 (fun j : Fin 16 => if l j = l h then BitVec.ofNat 32 j else 16#32)
      Finset.univ).toInt = (h : ℤ) := by
  have hlane : ∀ j : Fin 16, (BitVec.ofNat 32 (j : ℕ)).toInt = (j : ℤ) := by decide
  rw [← Finset.fold_hom (op' := min) (m := BitVec.toInt) SortNet.toInt_minsi]
  refine le_antisymm ((Finset.fold_min_le _).2 (Or.inr ⟨h, Finset.mem_univ h, ?_⟩)) ((Finset.le_fold_min _).2 ⟨?_, ?_⟩)
  · rw [if_pos rfl, hlane]
  · have : (2147483647#32).toInt = 2147483647 := by decide
    omega
  · intro j _
    split
    · rename_i hj
      rw [hlane]
      have : ¬ j < h := fun hlt => (hl.2 j hlt).ne hj
      omega
    · have : (16#32).toInt = 16 := by decide
      omega

/-- The body's index column holds the first greatest position, as a number. -/
theorem pay6_apply (x : FVec Ideal S128x768 .f32) (g : FVec Ideal S16x768 .f32) (t : Fin 128) {h : Fin 16}
    (hl : Router.IsFirstMax (rowLogits x g t) h) :
    k0_pay6 (F := Ideal) x g (ix2 t 0) = (((h : ℤ) : ℝ) : EReal) := by
  pointwise [k0_pay6, pay4_apply, pay5_apply]
  rw [hl.top_eq]
  exact congrArg (fun z : ℤ => ((z : ℝ) : EReal)) (toInt_first_lane _ hl)

/-- The body's weight column. -/
theorem pay7_apply (x : FVec Ideal S128x768 .f32) (g : FVec Ideal S16x768 .f32) (t : Fin 128) :
    k0_pay7 (F := Ideal) x g (ix2 t 0)
      = Ideal.div 1 (1 + Ideal.ofBits .f32 0x322BCC77#32 * Router.mass (rowLogits x g t)) := by
  pointwise [k0_pay7, pay4_apply, pay5_apply]
  rfl

/-- The body's gated answer of the grid point's expert, over the columns it finds in the scratch. -/
theorem pay8_apply (i : grid0.Coords) (x0 : FVec Ideal S128x768 .f32) (x2 : FVec Ideal S1x1536x768 .f32)
    (x3 : FVec Ideal S1x1x1536 .f32) (x4 : FVec Ideal S1x768x1536 .f32) (x5 : FVec Ideal S1x1x768 .f32)
    (s0 s1 : FVec Ideal S128x1 .f32) (t : Fin 128) (d : Fin 768) {h e : Fin 16} (he : (i 0).val = e.val)
    (hs : s0 (ix2 t 0) = (((h : ℤ) : ℝ) : EReal)) :
    k0_pay8 (F := Ideal) i x0 x2 x3 x4 x5 s0 s1 (ix2 t d)
      = Spec.gate h (s1 (ix2 t 0)) e
        * Spec.expert (fun k => x0 (ix2 t k)) (fun j k => x2 (ix3 0 j k)) (fun j => x3 (ix3 0 0 j))
            (fun d j => x4 (ix3 0 d j)) (fun d => x5 (ix3 0 0 d)) d := by
  have hlane : ∀ j : Fin 16, (BitVec.ofNat 32 (j : ℕ)).toInt = (j : ℤ) := by decide
  pointwise [k0_pay8, k0_pay3]
  rw [hs, he, hlane]
  have hiff : ((((h : ℤ) : ℝ) : EReal) = (((e : ℤ) : ℝ) : EReal)) ↔ h = e := by
    rw [EReal.coe_eq_coe_iff, Int.cast_inj, Nat.cast_inj, Fin.val_inj]
  simp only [hiff]
  rfl

/-- The first grid point's output is the token plus its gated answer. -/
theorem pay1_apply (x y : FVec Ideal S128x768 .f32) (j : S128x768.Idx) :
    k0_pay1 (F := Ideal) x y j = x j + y j := rfl

/-- A later grid point's output is what it found plus its gated answer. -/
theorem pay2_apply (y o : FVec Ideal S128x768 .f32) (t : Fin 128) (d : Fin 768) :
    k0_pay2 (F := Ideal) y o (ix2 t d) = o (ix2 t d) + y (ix2 t d) := by
  pointwise [k0_pay2]

/-- The body's token vector is the block it loads. -/
theorem pay3_apply (x : FVec Ideal S128x768 .f32) (t : Fin 128) (d : Fin 768) :
    k0_pay3 (F := Ideal) x (ix2 t d) = x (ix2 t d) := by
  pointwise [k0_pay3]

end Cert.Proof.Payload

end

end
-- ==== Proof.Points.lean ====
/- What each grid point leaves in the output block and in the two scratch columns, as the body's own vectors. -/
module

public import proofs.«01_k».proof.Proof.Payload
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.Points

open Idealize.ShloMosaic Idealize.ShloMosaic.TcCoe Idealize.SL.Sem Cert.KernelIdeal Cert.KernelIdeal.Gen

variable (m : (ℓ : Loc nD τ sig) → Buf (Elt Ideal) ℓ)

/-- The first grid point's index. -/
abbrev pt0 : Fin cfg0.N := ⟨0, lt_of_lt_of_eq (by decide) N_0.symm⟩

/-- The gated answer of grid point `t`'s expert, over the scratch columns `s0`, `s1`. -/
abbrev term (c : Dev nD) (t : Fin cfg0.N) (s0 s1 : FVec Ideal S128x1 .f32) : FVec Ideal S128x768 .f32 :=
  k0_pay8 (F := Ideal) (grid0.coords t) (iblk m c 0 t) (iblk m c 2 t) (iblk m c 3 t) (iblk m c 4 t) (iblk m c 5 t) s0 s1

/-- The index column that the first grid point stores. -/
abbrev widx (c : Dev nD) : FVec Ideal S128x1 .f32 := k0_pay6 (F := Ideal) (iblk m c 0 pt0) (iblk m c 1 pt0)

/-- The weight column that the first grid point stores. -/
abbrev wcol (c : Dev nD) : FVec Ideal S128x1 .f32 := k0_pay7 (F := Ideal) (iblk m c 0 pt0) (iblk m c 1 pt0)

/-- The first grid point leaves the token plus its expert's gated answer, and the two columns. -/
theorem outs_first (c : Dev nD) (h : 0 < cfg0.N) :
    outsAt0 m c 0 h = (k0_pay1 (k0_pay3 (iblk m c 0 pt0)) (term m c pt0 (widx m c) (wcol m c)), widx m c, wcol m c) := by
  rw [outsAt0_A m c pt0 (Nat.zero_mod _) (Nat.zero_mod _) (by decide)]
  refine Prod.ext ?_ (Prod.ext ?_ ?_)
  · dsimp only
    frame_out
  · dsimp only
    frame_out
  · dsimp only
    frame_out

/-- A later grid point adds its expert's gated answer to what it found and keeps the two columns. -/
theorem outs_later (c : Dev nD) (t : Fin cfg0.N) (ht : 1 ≤ t.val) (o : FVec Ideal S128x768 .f32) (s0 s1 : FVec Ideal S128x1 .f32)
    (hp : outsAt0 m c (t.val - 1) (Nat.lt_of_le_of_lt (Nat.sub_le _ _) t.isLt) = (o, s0, s1)) :
    outsAt0 m c t.val t.isLt = (k0_pay2 (term m c t s0 s1) o, s0, s1) := by
  have hN : t.val < 16 := lt_of_lt_of_eq t.isLt N_0
  rw [outsAt0_B m c t (by omega) (by omega) ht, hp]
  refine Prod.ext ?_ rfl
  dsimp only
  frame_out
  simp only [read_unread_whole]

end Cert.Proof.Points

end

end
-- ==== Proof.Blocks.lean ====
/- What the kernel's input blocks hold at a grid point, as elements of the launched arguments. -/
module

public import proofs.«01_k».proof.Proof.Points

@[expose] public section

set_option maxRecDepth 16384

noncomputable section

namespace Cert.Proof.Blocks

open Idealize.ShloMosaic Idealize.ShloMosaic.TcCoe Idealize.SL.Sem Cert.KernelIdeal Cert.KernelIdeal.Gen

variable (m : (ℓ : Loc nD τ sig) → Buf (Elt Ideal) ℓ)

/-- Where each input window's block lies at grid point `t`. -/
theorem idx : ∀ t : Fin cfg0.N, win0_0.index t = ![0, 0] ∧ win0_1.index t = ![0, 0] ∧ win0_2.index t = ![t.val, 0, 0]
    ∧ win0_3.index t = ![t.val, 0, 0] ∧ win0_4.index t = ![t.val, 0, 0] ∧ win0_5.index t = ![t.val, 0, 0] := by
  decide +kernel

/-- The grid's one coordinate at point `t` is `t`. -/
theorem coord : ∀ t : Fin cfg0.N, (grid0.coords t 0).val = t.val := by decide +kernel

/-- The expert that grid point `t` handles. -/
abbrev ex (t : Fin cfg0.N) : Fin 16 := ⟨t.val, lt_of_lt_of_eq t.isLt N_0⟩

/-- The token block. -/
theorem blk0 (c : Dev nD) (t : Fin cfg0.N) (r : Fin 128) (k : Fin 768) :
    (iblk m c 0 t : FVec Ideal S128x768 .f32) (ix2 r k) = m ((c : Thread nD τ).loc main_arg0) (ix3 r 0 k) := by
  have he : ((cfg0.win 0).blk t).view.emb (ix2 r k) = ix2 r k := by
    blk_ext [idx t]
  unfold iblk
  rw [View.read_apply, cast_eq, he]
  entry_read
  pointwise

/-- The router block. -/
theorem blk1 (c : Dev nD) (t : Fin cfg0.N) (e : Fin 16) (k : Fin 768) :
    (iblk m c 1 t : FVec Ideal S16x768 .f32) (ix2 e k) = m ((c : Thread nD τ).loc main_arg1) (ix2 e k) := by
  blk_ext [iblk, V, idx t]

/-- The first matrix of the point's expert. -/
theorem blk2 (c : Dev nD) (t : Fin cfg0.N) (j : Fin 1536) (k : Fin 768) :
    (iblk m c 2 t : FVec Ideal S1x1536x768 .f32) (ix3 0 j k) = m ((c : Thread nD τ).loc main_arg2) (ix3 (ex t) j k) := by
  blk_ext [iblk, V, idx t]

/-- The first bias of the point's expert. -/
theorem blk3 (c : Dev nD) (t : Fin cfg0.N) (j : Fin 1536) :
    (iblk m c 3 t : FVec Ideal S1x1x1536 .f32) (ix3 0 0 j) = m ((c : Thread nD τ).loc main_arg3) (ix2 (ex t) j) := by
  have he : ((cfg0.win 3).blk t).view.emb (ix3 0 0 j) = ix3 (ex t) 0 j := by
    blk_ext [idx t]
  unfold iblk
  rw [View.read_apply, cast_eq, he]
  entry_read
  change broadcastInDim S16x1x1536 ![0, 2] bcast_S16x1536_S16x1x1536_0_2
    (m ((c : Thread nD τ).loc main_arg3) : FVec Ideal S16x1536 .f32) (ix3 (ex t) 0 j) = _
  pointwise
  rfl

/-- The second matrix of the point's expert. -/
theorem blk4 (c : Dev nD) (t : Fin cfg0.N) (d : Fin 768) (j : Fin 1536) :
    (iblk m c 4 t : FVec Ideal S1x768x1536 .f32) (ix3 0 d j) = m ((c : Thread nD τ).loc main_arg4) (ix3 (ex t) d j) := by
  blk_ext [iblk, V, idx t]

/-- The second bias of the point's expert. -/
theorem blk5 (c : Dev nD) (t : Fin cfg0.N) (d : Fin 768) :
    (iblk m c 5 t : FVec Ideal S1x1x768 .f32) (ix3 0 0 d) = m ((c : Thread nD τ).loc main_arg5) (ix2 (ex t) d) := by
  have he : ((cfg0.win 5).blk t).view.emb (ix3 0 0 d) = ix3 (ex t) 0 d := by
    blk_ext [idx t]
  unfold iblk
  rw [View.read_apply, cast_eq, he]
  entry_read
  change broadcastInDim S16x1x768 ![0, 2] bcast_S16x768_S16x1x768_0_2
    (m ((c : Thread nD τ).loc main_arg5) : FVec Ideal S16x768 .f32) (ix3 (ex t) 0 d) = _
  pointwise
  rfl

end Cert.Proof.Blocks

end

end
-- ==== Proof.KernelValue.lean ====
/- What the kernel's result array holds: at each token, the token plus the gated answers of all experts. -/
module

public import proofs.«01_k».proof.Proof.Blocks
public import proofs.«01_k».proof.Proof.Gen.KernelIdeal.Value

@[expose] public section

set_option maxRecDepth 16384

noncomputable section

namespace Cert.Proof.KernelValue

open Idealize.ShloMosaic Idealize.ShloMosaic.TcCoe Idealize.SL.Sem Cert.KernelIdeal Cert.KernelIdeal.Gen
open Cert.Proof.Points Cert.Proof.Blocks

variable (m : (ℓ : Loc nD τ sig) → Buf (Elt Ideal) ℓ)

/-- Token `r`'s element `d`, from the launched arguments. -/
abbrev tok (c : Dev nD) (r : Fin 128) (d : Fin 768) : EReal := m ((c : Thread nD τ).loc main_arg0) (ix3 r 0 d)

/-- The logits of token `r`, from the launched arguments. -/
abbrev lg (c : Dev nD) (r : Fin 128) : Fin 16 → EReal :=
  Spec.tokenLogits (m ((c : Thread nD τ).loc main_arg0)) (m ((c : Thread nD τ).loc main_arg1)) r

/-- Expert `e`'s answer to token `r`, from the launched arguments. -/
abbrev ans (c : Dev nD) (r : Fin 128) (e : Fin 16) : Fin 768 → EReal :=
  Spec.answer (m ((c : Thread nD τ).loc main_arg0)) (m ((c : Thread nD τ).loc main_arg2)) (m ((c : Thread nD τ).loc main_arg3))
    (m ((c : Thread nD τ).loc main_arg4)) (m ((c : Thread nD τ).loc main_arg5)) r e

/-- Expert `n`'s gated answer to token `r`, zero past the last expert. -/
def part (c : Dev nD) (r : Fin 128) (d : Fin 768) (h : Fin 16) (n : ℕ) : EReal :=
  if hn : n < 16 then Spec.gate h (Spec.weight (lg m c r)) ⟨n, hn⟩ * ans m c r ⟨n, hn⟩ d else 0

/-- The body's logits at the first grid point are the token's. -/
theorem rowLogits_eq (c : Dev nD) (r : Fin 128) :
    Payload.rowLogits (iblk m c 0 pt0) (iblk m c 1 pt0) r = lg m c r := by
  have h0 := blk0 m c pt0 r
  have h1 := blk1 m c pt0
  unfold Payload.rowLogits lg Spec.tokenLogits
  exact congrArg₂ Spec.logits (funext h0) (funext fun e => funext (h1 e))

/-- The body's gated answer at grid point `t`. -/
theorem term_eq (c : Dev nD) (t : Fin cfg0.N) (r : Fin 128) (d : Fin 768) {h : Fin 16} (hl : Router.IsFirstMax (lg m c r) h) :
    term m c t (widx m c) (wcol m c) (ix2 r d) = part m c r d h t.val := by
  have hs : widx m c (ix2 r 0) = (((h : ℤ) : ℝ) : EReal) :=
    Payload.pay6_apply _ _ r (by rw [rowLogits_eq]; exact hl)
  have hw : wcol m c (ix2 r 0) = Spec.weight (lg m c r) := by
    unfold Spec.weight
    rw [← rowLogits_eq]
    exact Payload.pay7_apply _ _ r
  have hN : t.val < 16 := lt_of_lt_of_eq t.isLt N_0
  unfold part
  rw [dif_pos hN, ← hw]
  refine (Payload.pay8_apply (grid0.coords t) _ _ _ _ _ _ _ r d (e := ex t) (coord t) hs).trans ?_
  have h0 := blk0 m c t r
  have h2 := blk2 m c t
  have h3 := blk3 m c t
  have h4 := blk4 m c t
  have h5 := blk5 m c t
  unfold ans Spec.answer
  simp only [h0, h2, h3, h4, h5]

/-- After grid point `n` the output block holds the token plus the gated answers of the experts up to `n`, and the
    two columns are the first point's. -/
theorem outs_eq (c : Dev nD) : ∀ (n : ℕ) (hn : n < cfg0.N), ∃ o : FVec Ideal S128x768 .f32,
    outsAt0 m c n hn = (o, widx m c, wcol m c) ∧ ∀ (r : Fin 128) (d : Fin 768) (h : Fin 16),
      Router.IsFirstMax (lg m c r) h →
        o (ix2 r d) = tok m c r d + ∑ e ∈ Finset.range (n + 1), part m c r d h e := by
  intro n
  induction n with
  | zero =>
    intro hn
    refine ⟨_, outs_first m c hn, fun r d h hl => ?_⟩
    rw [Payload.pay1_apply, Payload.pay3_apply, term_eq m c pt0 r d hl]
    have h0 := blk0 m c pt0 r d
    rw [h0]
    simp
  | succ n ih =>
    intro hn
    obtain ⟨o, ho, hv⟩ := ih (Nat.lt_of_succ_lt hn)
    refine ⟨_, outs_later m c ⟨n + 1, hn⟩ (Nat.succ_le_succ (Nat.zero_le n)) o _ _ ho, fun r d h hl => ?_⟩
    rw [Payload.pay2_apply, term_eq m c ⟨n + 1, hn⟩ r d hl, hv r d h hl, Finset.sum_range_succ _ (n + 1), add_assoc]

/-- The result array holds, at token `r`, the token plus the gated answers of all sixteen experts. -/
theorem result_apply (c : Dev nD) (r : Fin 128) (d : Fin 768) {h : Fin 16} (hl : Router.IsFirstMax (lg m c r) h) :
    (Cert.KernelIdeal.Value.G6 m c : FVec Ideal S128x768 .f32) (ix2 r d)
      = tok m c r d + ∑ e : Fin 16, Spec.gate h (Spec.weight (lg m c r)) e * ans m c r e d := by
  have h15 : 15 < cfg0.N := lt_of_lt_of_eq (by decide) N_0.symm
  obtain ⟨o, ho, hv⟩ := outs_eq m c 15 h15
  rw [Cert.KernelIdeal.Value.G6_last, ← Cert.KernelIdeal.Value.outsAt0_sweep m c 15 h15, ho]
  refine (hv r d h hl).trans ?_
  rw [Finset.sum_range]
  refine congrArg _ (Finset.sum_congr rfl fun e _ => ?_)
  unfold part
  rw [dif_pos e.isLt]

end Cert.Proof.KernelValue

end

end
-- ==== Proof.Choice.lean ====
/- The reference's choice of an expert: the first column of every row's routing weights, sorted greatest first. -/
module

public import Idealize.ShloMosaic.Lib.Pointwise
public import proofs.«01_k».proof.Proof.Router
public import proofs.«01_k».proof.ReferenceIdeal

@[expose] public section

noncomputable section

namespace Cert.Proof.Choice

open Idealize.ShloMosaic Cert.ReferenceIdeal

/-- The expert that comes first when row `r` of the table `x` is sorted, greatest first. -/
def pick (x : FVec Ideal S128x16 .f32) (r : Fin 128) : Fin 16 :=
  sortedFrom (fun i j : Fin 16 => FloatOps.cmpfTotal (F := Ideal) (φ := .f32) .gt (x (ix2 r i)) (x (ix2 r j)) == 1#1) 0

/-- The picked expert is the first one with the greatest entry of the row. -/
theorem pick_isFirstMax (x : FVec Ideal S128x16 .f32) (r : Fin 128) :
    Router.IsFirstMax (fun j => (x (ix2 r j) : EReal)) (pick x r) := by
  refine Router.isFirstMax_sortedFrom _ _ fun i j => ?_
  show (BitVec.ofBool (decide ((x (ix2 r i) : EReal) > x (ix2 r j))) == 1#1) = true ↔ _
  by_cases h : (x (ix2 r j) : EReal) < x (ix2 r i) <;> simp [h]

/-- Row `r`'s first element moved along the row to position `k`. -/
theorem along_row (r : Fin 128) (k : Fin 16) :
    Shape.Idx.along (s := S128x16) (ix2 r 0) (1 : Fin 2) k = ix2 r k := by
  funext a; fin_cases a <;> rfl

/-- The slice at offset zero reads row `r`'s first element. -/
theorem slice_row {α : Type} (y : S128x16.Idx → α) (h : S128x16.Slices (fun _ => 0) S128x1) (r : Fin 128) :
    extractStridedSlice S128x1 (fun _ => 0) y h (ix2 r 0) = y (ix2 r 0) := by
  unfold extractStridedSlice
  refine congrArg y (funext fun a => Fin.ext ?_)
  fin_cases a
  · exact Nat.zero_add _
  · rfl

/-- Both components that sorting keeps at row `r`: the tables' entries at the picked expert. -/
theorem sorted_row {β : Type} (x : FVec Ideal S128x16 .f32) (y : S128x16.Idx → β) (r : Fin 128) :
    (Host.sort2 S128x16 1 (fun a b : Ideal .f32 × β => FloatOps.cmpfTotal (F := Ideal) (φ := .f32) .gt a.1 b.1) x y).1 (ix2 r 0) =
        x (ix2 r (pick x r)) ∧
      (Host.sort2 S128x16 1 (fun a b : Ideal .f32 × β => FloatOps.cmpfTotal (F := Ideal) (φ := .f32) .gt a.1 b.1) x y).2 (ix2 r 0) =
        y (ix2 r (pick x r)) := by
  have hp : sortedFrom (fun i j : Fin 16 => FloatOps.cmpfTotal (F := Ideal) (φ := .f32) .gt
      (x (Shape.Idx.along (s := S128x16) (ix2 r 0) (1 : Fin 2) i))
      (x (Shape.Idx.along (s := S128x16) (ix2 r 0) (1 : Fin 2) j)) == 1#1) 0 = pick x r := by
    unfold pick
    refine congrArg (fun R => sortedFrom R 0) (funext fun i => funext fun j => ?_)
    rw [along_row, along_row]
  unfold Host.sort2
  rw [dif_pos (by decide : 1 < S128x16.rank)]
  exact ⟨congrArg x ((congrArg (Shape.Idx.along (s := S128x16) (ix2 r 0) (1 : Fin 2)) hp).trans (along_row r _)),
    congrArg y ((congrArg (Shape.Idx.along (s := S128x16) (ix2 r 0) (1 : Fin 2)) hp).trans (along_row r _))⟩

/-- The table that numbers every row's entries, as 32-bit words. -/
def numbers : IVec S128x16 32 := fun i => if hd : 1 < S128x16.rank then iotaInDim S128x16 32 ⟨1, hd⟩ i else 0#32

/-- The kept weight of row `r` is the row's entry at the picked expert. -/
theorem topK_value (x : FVec Ideal S128x16 .f32) (h : S128x16.Slices (fun _ => 0) S128x1) (r : Fin 128) :
    (Host.topK S128x1 1 (FloatOps.cmpfTotal (F := Ideal) (φ := .f32) .gt) x h).1 (ix2 r 0) = x (ix2 r (pick x r)) := by
  exact (slice_row _ h r).trans (sorted_row x numbers r).1

/-- The kept expert number of row `r` is the picked expert's. -/
theorem topK_index (x : FVec Ideal S128x16 .f32) (h : S128x16.Slices (fun _ => 0) S128x1) (r : Fin 128) :
    (Host.topK S128x1 1 (FloatOps.cmpfTotal (F := Ideal) (φ := .f32) .gt) x h).2 (ix2 r 0) =
      BitVec.ofNat 32 (pick x r) := by
  refine (slice_row _ h r).trans (((sorted_row x numbers r).2).trans ?_)
  unfold numbers
  rw [dif_pos (by decide : 1 < S128x16.rank)]
  rfl

end Cert.Proof.Choice

end
-- ==== Proof.RefValue.lean ====
/- What the reference computes: at each token, the gated answers of all experts plus the token. -/
module

public import Idealize.ShloMosaic.Lib.Pointwise
public import Idealize.ShloMosaic.Lib.Tactic.CleanTypes
public import proofs.«01_k».proof.Proof.Choice
public import proofs.«01_k».proof.Proof.Spec
public import proofs.«01_k».proof.Proof.Gen.ReferenceIdeal.Run

@[expose] public section

set_option maxRecDepth 16384

noncomputable section

namespace Cert.Proof.RefValue

open Idealize.ShloMosaic Idealize.ShloMosaic.TcCoe Idealize.SL.Sem Cert.ReferenceIdeal
open Cert.ReferenceIdeal.Value Facts₀ Facts

variable (V : Valuation τ sig (Elt Ideal))

/-- The logits of token `r`, from the arguments. -/
abbrev lg (r : Fin 128) : Fin 16 → EReal :=
  Spec.tokenLogits (V (Proc.devRef .tc main_arg0)) (V (Proc.devRef .tc main_arg1)) r

/-- Expert `e`'s answer to token `r`, from the arguments. -/
abbrev ans (r : Fin 128) (e : Fin 16) : Fin 768 → EReal :=
  Spec.answer (V (Proc.devRef .tc main_arg0)) (V (Proc.devRef .tc main_arg2)) (V (Proc.devRef .tc main_arg3))
    (V (Proc.devRef .tc main_arg4)) (V (Proc.devRef .tc main_arg5)) r e

/-- The reference's table of logits. -/
theorem logits_apply (r : Fin 128) (e : Fin 16) :
    (res_main_v2 V : FVec Ideal S128x16 .f32) (ix2 r e) = lg V r e := by
  unfold res_main_v2 res_main_v0
  clean_types
  pointwise
  rfl

/-- The reference's table of routing weights: every row is the softmax of the token's logits. -/
theorem softmax_apply (r : Fin 128) (e : Fin 16) :
    (res_main_v13 V : FVec Ideal S128x16 .f32) (ix2 r e) = Router.soft (lg V r) e := by
  have hl : (fun j => (res_main_v2 V : FVec Ideal S128x16 .f32) (ix2 r j)) = lg V r := funext (logits_apply V r)
  unfold res_main_v13 res_main_v9
  rw [← hl]
  generalize res_main_v2 V = x
  clean_types
  pointwise
  have hb : (Ideal.ofBits .f32 0xFF800000#32 : EReal) = ⊥ := rfl
  rw [hb]
  simp only [max_eq_right bot_le]
  rfl

/-- The expert the reference picks for token `r`. -/
def pick (r : Fin 128) : Fin 16 := Choice.pick (res_main_v13 V) r

/-- The picked expert is the first one with the greatest routing weight. -/
theorem pick_isFirstMax (r : Fin 128) : Router.IsFirstMax (Router.soft (lg V r)) (pick V r) := by
  have h := Choice.pick_isFirstMax (res_main_v13 V) r
  rwa [show (fun j => ((res_main_v13 V : FVec Ideal S128x16 .f32) (ix2 r j) : EReal)) = Router.soft (lg V r) from
    funext (softmax_apply V r)] at h

/-- The weight of token `r`: its greatest routing weight, renormalised over the one expert kept. -/
def share (r : Fin 128) : EReal :=
  Ideal.div (Router.soft (lg V r) (pick V r)) (Router.soft (lg V r) (pick V r) + Ideal.ofBits .f32 0x322BCC77#32)

/-- The reference's weights, one per token. -/
theorem weight_apply (r : Fin 128) : (res_main_v20 V : FVec Ideal S128 .f32) (ix1 r) = share V r := by
  have hv : (res_main_values V : FVec Ideal S128x1 .f32) (ix2 r 0) = Router.soft (lg V r) (pick V r) :=
    (Choice.topK_value (res_main_v13 V) _ r).trans (softmax_apply V r _)
  unfold share
  rw [← hv]
  unfold res_main_v20
  generalize res_main_values V = x
  clean_types
  pointwise
  rw [Fin.sum_univ_one]

/-- The reference's expert numbers, one per token. -/
theorem index_apply (r : Fin 128) : (res_main_v21 V : IVec S128 32) (ix1 r) = BitVec.ofNat 32 (pick V r) := by
  unfold res_main_v21
  clean_types
  pointwise
  exact Choice.topK_index (res_main_v13 V) _ r

/-- The reference's reshaped tokens. -/
theorem tok_apply (r : Fin 128) (d : Fin 768) :
    (res_main_v0 V : FVec Ideal S128x768 .f32) (ix2 r d) = V (Proc.devRef .tc main_arg0) (ix3 r 0 d) := by
  unfold res_main_v0
  clean_types
  pointwise

/-- Expert `n`'s first matrix lies within the stack of all experts'. -/
theorem fits_W1 {n : ℕ} (h : n < 16) : S16x1536x768.Slices ![n, 0, 0] S1x1536x768 :=
  ⟨rfl, fun a => by fin_cases a <;> simp <;> omega⟩
/-- Expert `n`'s first bias lies within the stack of all experts'. -/
theorem fits_b1 {n : ℕ} (h : n < 16) : S16x1536.Slices ![n, 0] S1x1536 :=
  ⟨rfl, fun a => by fin_cases a <;> simp <;> omega⟩
/-- Expert `n`'s second matrix lies within the stack of all experts'. -/
theorem fits_W2 {n : ℕ} (h : n < 16) : S16x768x1536.Slices ![n, 0, 0] S1x768x1536 :=
  ⟨rfl, fun a => by fin_cases a <;> simp <;> omega⟩
/-- Expert `n`'s second bias lies within the stack of all experts'. -/
theorem fits_b2 {n : ℕ} (h : n < 16) : S16x768.Slices ![n, 0] S1x768 :=
  ⟨rfl, fun a => by fin_cases a <;> simp <;> omega⟩

/-- Expert `n`'s share of every token's weight, spread over the token's elements: the weight where the expert is
    the picked one, zero elsewhere. -/
def gates (idx : IVec S128 32) (w : FVec Ideal S128 .f32) (n : ℕ) : FVec Ideal S128x768 .f32 :=
  broadcastInDim S128x768 ![0, 1] bcast_S128x1_S128x768_0_1 (broadcastInDim S128x1 ![0] bcast_S128_S128x1_0
    (mulf (uitofp .f32 (cmpi .eq idx (broadcastInDim S128 ![] bcast_S_S128 (constantI S_ 32 (BitVec.ofNat 32 n))))) w))

/-- Expert `n`'s answers to all tokens, as the reference writes them. -/
def answers (x : FVec Ideal S128x768 .f32) (W1 : FVec Ideal S16x1536x768 .f32) (b1 : FVec Ideal S16x1536 .f32)
    (W2 : FVec Ideal S16x768x1536 .f32) (b2 : FVec Ideal S16x768 .f32) (n : ℕ) (h : n < 16) : FVec Ideal S128x768 .f32 :=
  addf (Host.dotGeneral dot_S128x1536_S1536x768_S128x768_1_0_0_1_n_n none
      (maximumf (addf (Host.dotGeneral dot_S128x768_S768x1536_S128x1536_1_0_0_1_n_n none x
            (transpose S768x1536 [1, 0] (shapeCast _ (extractStridedSlice S1x1536x768 ![n, 0, 0] W1 (fits_W1 h))
              shapeCasts_S1x1536x768_S1536x768) transposes_S1536x768_S768x1536_1_0))
          (broadcastInDim S128x1536 ![0, 1] bcast_S1x1536_S128x1536_0_1 (broadcastInDim S1x1536 ![1] bcast_S1536_S1x1536_1
            (shapeCast _ (extractStridedSlice S1x1536 ![n, 0] b1 (fits_b1 h)) shapeCasts_S1x1536_S1536))))
        (broadcastInDim S128x1536 ![] bcast_S_S128x1536 (constant S_ .f32 0x00000000#32)))
      (transpose S1536x768 [1, 0] (shapeCast _ (extractStridedSlice S1x768x1536 ![n, 0, 0] W2 (fits_W2 h))
        shapeCasts_S1x768x1536_S768x1536) transposes_S768x1536_S1536x768_1_0))
    (broadcastInDim S128x768 ![0, 1] bcast_S1x768_S128x768_0_1 (broadcastInDim S1x768 ![1] bcast_S768_S1x768_1
      (shapeCast _ (extractStridedSlice S1x768 ![n, 0] b2 (fits_b2 h)) shapeCasts_S1x768_S768)))

/-- The reference's running sum before expert `n`. -/
def running : (n : ℕ) → n ≤ 16 → FVec Ideal S128x768 .f32
  | 0, _ => broadcastInDim S128x768 ![] bcast_S_S128x768 (constant S_ .f32 0x00000000#32)
  | n + 1, h => addf (running n (Nat.le_of_succ_le h)) (mulf (gates (res_main_v21 V) (res_main_v20 V) n)
      (answers (res_main_v0 V) (V (Proc.devRef .tc main_arg2)) (V (Proc.devRef .tc main_arg3))
        (V (Proc.devRef .tc main_arg4)) (V (Proc.devRef .tc main_arg5)) n h))

/-- The reference's running sum after fifteen experts. -/
theorem running_15 : (res_main_v426 V : FVec Ideal S128x768 .f32) = running V 15 (by decide) := rfl

/-- The truth value of "expert `e` is the picked one", as a float. -/
theorem mask_eq (h e : Fin 16) :
    (FloatOps.uitofp (F := Ideal) .f32 (IntOp.cmpi .eq (BitVec.ofNat 32 h) (BitVec.ofNat 32 e)) : EReal) =
      if h = e then 1 else 0 := by
  have hi : IntOp.cmpi .eq (BitVec.ofNat 32 h) (BitVec.ofNat 32 e) = if h = e then 1#1 else 0#1 := by
    revert h e; decide
  rw [hi]
  show (((if h = e then 1#1 else 0#1 : BitVec 1).toNat : ℝ) : EReal) = _
  split <;> simp

/-- The gates of expert `e`: the token's weight where the token's number is `e`, zero elsewhere. -/
theorem gates_apply (e : Fin 16) (r : Fin 128) (d : Fin 768) :
    (gates (res_main_v21 V) (res_main_v20 V) e (ix2 r d) : EReal) = Spec.gate (pick V r) (share V r) e := by
  have hi := index_apply V r
  have hw := weight_apply V r
  revert hi hw
  generalize (res_main_v21 V : IVec S128 32) = idx
  generalize (res_main_v20 V : FVec Ideal S128 .f32) = w
  intro hi hw
  unfold gates
  pointwise
  rw [hi, hw, mask_eq]
  unfold Spec.gate
  split <;> simp

/-- One expert's answers to all tokens, read at one token. -/
theorem answers_apply (x : FVec Ideal S128x768 .f32) (W1 : FVec Ideal S16x1536x768 .f32) (b1 : FVec Ideal S16x1536 .f32)
    (W2 : FVec Ideal S16x768x1536 .f32) (b2 : FVec Ideal S16x768 .f32) (e : Fin 16) (r : Fin 128) (d : Fin 768) :
    (answers x W1 b1 W2 b2 e e.2 (ix2 r d) : EReal) = Spec.expert (fun k => x (ix2 r k)) (fun j k => W1 (ix3 e j k))
      (fun j => b1 (ix2 e j)) (fun d j => W2 (ix3 e d j)) (fun d => b2 (ix2 e d)) d := by
  unfold answers
  pointwise
  rfl

/-- Expert `n`'s gated answer to token `r`, zero past the last expert. -/
def part (r : Fin 128) (d : Fin 768) (n : ℕ) : EReal :=
  if hn : n < 16 then Spec.gate (pick V r) (share V r) ⟨n, hn⟩ * ans V r ⟨n, hn⟩ d else 0

/-- The running sum before expert `n` holds the gated answers of the experts before it. -/
theorem running_apply (r : Fin 128) (d : Fin 768) (n : ℕ) (h : n ≤ 16) :
    (running V n h (ix2 r d) : EReal) = ∑ i ∈ Finset.range n, part V r d i := by
  induction n with
  | zero =>
    show (broadcastInDim S128x768 ![] bcast_S_S128x768 (constant S_ .f32 0x00000000#32) : FVec Ideal S128x768 .f32) (ix2 r d) = _
    pointwise
    rfl
  | succ n ih =>
    have hx : (fun k => (res_main_v0 V : FVec Ideal S128x768 .f32) (ix2 r k)) =
        fun k => V (Proc.devRef .tc main_arg0) (ix3 r 0 k) := funext (tok_apply V r)
    rw [Finset.sum_range_succ, ← ih (Nat.le_of_succ_le h)]
    refine congrArg (HAdd.hAdd (running V n (Nat.le_of_succ_le h) (ix2 r d) : EReal)) (Eq.trans ?_ (dif_pos (Nat.lt_of_succ_le h)).symm)
    refine congrArg₂ (· * ·) (gates_apply V ⟨n, h⟩ r d) ((answers_apply _ _ _ _ _ ⟨n, h⟩ r d).trans ?_)
    rw [hx]
    rfl

/-- The reference's result array at token `r`: the gated answers of all experts plus the token. -/
theorem result_apply (r : Fin 128) (d : Fin 768) :
    (addf (running V 16 le_rfl) (res_main_v0 V) (ix2 r d) : EReal) =
      (∑ e : Fin 16, Spec.gate (pick V r) (share V r) e * ans V r e d) + V (Proc.devRef .tc main_arg0) (ix3 r 0 d) := by
  refine congrArg₂ (· + ·) ((running_apply V r d 16 le_rfl).trans ?_) (tok_apply V r d)
  rw [Finset.sum_range]
  exact Finset.sum_congr rfl fun e _ => dif_pos e.2

end Cert.Proof.RefValue

end
-- ==== Proof.Equation.lean ====
/- The equation: where every token's greatest logit is a real number, the kernel's result array is the reference's. -/
module

public import proofs.«01_k».proof.Proof.KernelValue
public import proofs.«01_k».proof.Proof.RefValue

@[expose] public section

noncomputable section

namespace Cert.Proof.Equation

open Idealize.ShloMosaic Idealize.ShloMosaic.TcCoe Idealize.SL.Sem

/-- The kernel's weight of the picked expert is the reference's: dividing one by `1 + ε · mass` is renormalising the
    softmax entry of the picked expert. -/
theorem weight_eq_share (l : Fin 16 → EReal) {M : ℝ} (hM : Router.top l = M) {h : Fin 16}
    (hs : Router.IsFirstMax (Router.soft l) h) :
    Spec.weight l = Ideal.div (Router.soft l h) (Router.soft l h + Ideal.ofBits .f32 0x322BCC77#32) := by
  obtain ⟨ε, hε, he⟩ := Router.eps_real
  unfold Spec.weight
  rw [he]
  exact Router.weight_eq l hM (Router.isFirstMax_of_soft l hM hs) hε

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal))

/-- The reference's result array, from its arguments. -/
abbrev reference : FVec Ideal ⟨2, ![128, 768]⟩ .f32 :=
  addf (RefValue.running V 16 le_rfl) (Cert.ReferenceIdeal.Value.res_main_v0 V)

/-- On arguments that agree, with every token's greatest logit a real number, the two result arrays are equal. -/
theorem arrays_eq (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (hfin : ∀ r, ∃ M : ℝ, Router.top (KernelValue.lg m c r) = M) :
    reference V = (Cert.KernelIdeal.Value.G6 m c : FVec Ideal ⟨2, ![128, 768]⟩ .f32) := by
  refine funext fun i => ?_
  obtain ⟨r, d, rfl⟩ : ∃ (r : Fin 128) (d : Fin 768), i = ix2 r d := ⟨i 0, i 1, by funext a; fin_cases a <;> rfl⟩
  obtain ⟨M, hM⟩ := hfin r
  have hl : RefValue.lg V r = KernelValue.lg m c r := congrArg₂ (fun x g => Spec.tokenLogits x g r) h0 h1
  have ha : ∀ e, RefValue.ans V r e = KernelValue.ans m c r e := fun e => by
    unfold RefValue.ans KernelValue.ans
    rw [h0, h2, h3, h4, h5]
  have hp := RefValue.pick_isFirstMax V r
  have hw : RefValue.share V r = Spec.weight (KernelValue.lg m c r) := by
    rw [← hl]
    exact (weight_eq_share _ (hl ▸ hM) hp).symm
  rw [hl] at hp
  refine (RefValue.result_apply V r d).trans (Eq.trans ?_
    (KernelValue.result_apply m c r d (Router.isFirstMax_of_soft _ hM hp)).symm)
  rw [add_comm]
  refine congrArg₂ (· + ·) (congrFun h0 _) (Finset.sum_congr rfl fun e _ => ?_)
  rw [hw, ha]

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Precondition
public import proofs.«01_k».proof.Proof.Equation
public import Idealize.ShloMosaic.Adequacy
public import Idealize.ShloMosaic.Init

@[expose] public section

noncomputable section

namespace Cert.Proof

open Idealize.ShloMosaic Idealize.SL.Sem

/-- The reference's run: every execution ends, its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1)
        ∧ r.2.mem ((c.tc : Thread Cert.ReferenceIdeal.nD Cert.ReferenceIdeal.τ).loc Cert.ReferenceIdeal.main_arg2) = m (c.tc.loc Cert.ReferenceIdeal.main_arg2)
        ∧ r.2.mem ((c.tc : Thread Cert.ReferenceIdeal.nD Cert.ReferenceIdeal.τ).loc Cert.ReferenceIdeal.main_arg3) = m (c.tc.loc Cert.ReferenceIdeal.main_arg3)
        ∧ r.2.mem ((c.tc : Thread Cert.ReferenceIdeal.nD Cert.ReferenceIdeal.τ).loc Cert.ReferenceIdeal.main_arg4) = m (c.tc.loc Cert.ReferenceIdeal.main_arg4)
        ∧ r.2.mem ((c.tc : Thread Cert.ReferenceIdeal.nD Cert.ReferenceIdeal.τ).loc Cert.ReferenceIdeal.main_arg5) = m (c.tc.loc Cert.ReferenceIdeal.main_arg5))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The value claim: from memories agreeing on the arguments, where every token's greatest logit is a real number, the
    kernel and the reference end with equal result arrays and unchanged arguments. -/
theorem value : Cert.algebraic_KernelIdeal_ReferenceIdeal_pre_top_logit_finite := by
  intro m g m' g' hpre hagree
  refine ⟨fun c => Cert.KernelIdeal.Value.G6 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hagree c
  exact Equation.arrays_eq m (Idealize.ShloMosaic.StableHlo.launchContents m' c) c h0 h1 h2 h3 h4 h5
    fun r => Precondition.top_real _ _ _ _ _ _ r (congrFun (hpre c) (ix1 r))

/-- Everything the certificate claims. -/
theorem claim : Cert.Claim :=
  ⟨Cert.Kernel.Gen.facts, Cert.KernelIdeal.Gen.facts, Cert.ReferenceIdeal.Gen.facts, Precondition.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, value⟩

end Cert.Proof

end
